-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S128x1024 : Shape := ⟨2, ![128, 1024]⟩
abbrev S1024x1024 : Shape := ⟨2, ![1024, 1024]⟩
abbrev S168x1024 : Shape := ⟨2, ![168, 1024]⟩
abbrev S176x1024 : Shape := ⟨2, ![176, 1024]⟩
abbrev S30 : Shape := ⟨1, ![30]⟩
abbrev S_ : Shape := ⟨0, ![]⟩
abbrev S344x128 : Shape := ⟨2, ![344, 128]⟩
abbrev S344x1024 : Shape := ⟨2, ![344, 1024]⟩
abbrev S1 : Shape := ⟨1, ![1]⟩
abbrev S168x512 : Shape := ⟨2, ![168, 512]⟩
abbrev S176x512 : Shape := ⟨2, ![176, 512]⟩
abbrev S336x128 : Shape := ⟨2, ![336, 128]⟩
abbrev S336x1024 : Shape := ⟨2, ![336, 1024]⟩
abbrev S168x256 : Shape := ⟨2, ![168, 256]⟩
abbrev S176x256 : Shape := ⟨2, ![176, 256]⟩

abbrev nBuf : Space → Nat
  | .hbm => 3
  | .vmem => 9
  | .smem => 0
  | _ => 0

abbrev bufTy : (tb : Table) → Fin (tcTables nBuf tb) → BufTy
  | .hbm, ⟨0, _⟩ => ⟨S1024x128, .f32⟩
  | .hbm, ⟨1, _⟩ => ⟨S128x1024, .f32⟩
  | .hbm, ⟨2, _⟩ => ⟨S1024x1024, .f32⟩
  | .local _ .vmem, ⟨0, _⟩ => ⟨S1024x128, .f32⟩
  | .local _ .vmem, ⟨1, _⟩ => ⟨S128x1024, .f32⟩
  | .local _ .vmem, ⟨2, _⟩ => ⟨S1024x1024, .f32⟩
  | .local _ .vmem, ⟨3, _⟩ => ⟨S168x1024, .f32⟩
  | .local _ .vmem, ⟨4, _⟩ => ⟨S176x1024, .f32⟩
  | .local _ .vmem, ⟨5, _⟩ => ⟨S168x1024, .f32⟩
  | .local _ .vmem, ⟨6, _⟩ => ⟨S176x1024, .f32⟩
  | .local _ .vmem, ⟨7, _⟩ => ⟨S168x1024, .f32⟩
  | .local _ .vmem, ⟨8, _⟩ => ⟨S168x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_30 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v51 : BitVec 32 := Scalar.muli c4_i32_20 v29
  let c2_i32_21 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v52 : BitVec 32 := Scalar.muli c2_i32_21 v49
  let v53 : BitVec 32 := Scalar.addi v51 v52
  let c1_i32_19 : BitVec 32 := 1#32
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v50 : BitVec 32 := Scalar.subi c1_i32_19 v32
  let v54 : BitVec 32 := Scalar.xori v50 v49
  let v55 : BitVec 32 := Scalar.addi v53 v54
  let c1_i32_29 : BitVec 32 := 1#32
  let v69 : BitVec 32 := Scalar.muli v55 c1_i32_29
  let v70 : BitVec 32 := Scalar.addi c0_i32_30 v69
  v70.toNat
def k0_dev2 (d0 : Dev nD) : Nat :=
  let c0_i32_33 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v57 : BitVec 32 := Scalar.muli c4_i32_23 v29
  let c2_i32_24 : BitVec 32 := 2#32
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v56 : BitVec 32 := Scalar.subi c1_i32_22 v49
  let v58 : BitVec 32 := Scalar.muli c2_i32_24 v56
  let v59 : BitVec 32 := Scalar.addi v57 v58
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v60 : BitVec 32 := Scalar.xori v32 v56
  let v61 : BitVec 32 := Scalar.addi v59 v60
  let c1_i32_32 : BitVec 32 := 1#32
  let v71 : BitVec 32 := Scalar.muli v61 c1_i32_32
  let v72 : BitVec 32 := Scalar.addi c0_i32_33 v71
  v72.toNat
def k0_dev3 (d0 : Dev nD) : Nat :=
  let c0_i32_36 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v62 : BitVec 32 := Scalar.subi c1_i32_25 v29
  let v63 : BitVec 32 := Scalar.muli c4_i32_26 v62
  let c2_i32_27 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v64 : BitVec 32 := Scalar.muli c2_i32_27 v49
  let v65 : BitVec 32 := Scalar.addi v63 v64
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v66 : BitVec 32 := Scalar.xori v32 v49
  let v67 : BitVec 32 := Scalar.addi v65 v66
  let c1_i32_35 : BitVec 32 := 1#32
  let v73 : BitVec 32 := Scalar.muli v67 c1_i32_35
  let v74 : BitVec 32 := Scalar.addi c0_i32_36 v73
  v74.toNat
def k0_mult1 (d0 : Dev nD) : BitVec 32 :=
  let c0_i32_43 : BitVec 32 := 0#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v81 : BitVec 32 := Scalar.subi c1_i32_42 v32
  let c512_i32 : BitVec 32 := 512#32
  let v82 : BitVec 32 := Scalar.muli v81 c512_i32
  let v83 : BitVec 32 := Scalar.addi c0_i32_43 v82
  v83
def k0_off1 (d0 : Dev nD) : Fin 2 → Nat :=
  let c0_i32_50 : BitVec 32 := 0#32
  let c0_i32_43 : BitVec 32 := 0#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v81 : BitVec 32 := Scalar.subi c1_i32_42 v32
  let c512_i32 : BitVec 32 := 512#32
  let v82 : BitVec 32 := Scalar.muli v81 c512_i32
  let v83 : BitVec 32 := Scalar.addi c0_i32_43 v82
  let v84 : BitVec 32 := v83
  ![0, v84.toNat]
def k0_dev4 (d0 : Dev nD) : Nat :=
  let c0_i32_47 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v51 : BitVec 32 := Scalar.muli c4_i32_20 v29
  let c2_i32_21 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v52 : BitVec 32 := Scalar.muli c2_i32_21 v49
  let v53 : BitVec 32 := Scalar.addi v51 v52
  let c1_i32_19 : BitVec 32 := 1#32
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v50 : BitVec 32 := Scalar.subi c1_i32_19 v32
  let v54 : BitVec 32 := Scalar.xori v50 v49
  let v55 : BitVec 32 := Scalar.addi v53 v54
  let c1_i32_46 : BitVec 32 := 1#32
  let v85 : BitVec 32 := Scalar.muli v55 c1_i32_46
  let v86 : BitVec 32 := Scalar.addi c0_i32_47 v85
  v86.toNat
def k0_mult2 (d0 : Dev nD) : BitVec 32 :=
  let c0_i32_53 : BitVec 32 := 0#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v93 : BitVec 32 := Scalar.subi c1_i32_51 v32
  let c512_i32_52 : BitVec 32 := 512#32
  let v94 : BitVec 32 := Scalar.muli v93 c512_i32_52
  let v95 : BitVec 32 := Scalar.addi c0_i32_53 v94
  v95
def k0_off2 (d0 : Dev nD) : Fin 2 → Nat :=
  let c168_i32 : BitVec 32 := 168#32
  let c0_i32_53 : BitVec 32 := 0#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v93 : BitVec 32 := Scalar.subi c1_i32_51 v32
  let c512_i32_52 : BitVec 32 := 512#32
  let v94 : BitVec 32 := Scalar.muli v93 c512_i32_52
  let v95 : BitVec 32 := Scalar.addi c0_i32_53 v94
  let v96 : BitVec 32 := v95
  ![168, v96.toNat]
def k0_dev5 (d0 : Dev nD) : Nat :=
  let c0_i32_56 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v51 : BitVec 32 := Scalar.muli c4_i32_20 v29
  let c2_i32_21 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v52 : BitVec 32 := Scalar.muli c2_i32_21 v49
  let v53 : BitVec 32 := Scalar.addi v51 v52
  let c1_i32_19 : BitVec 32 := 1#32
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v50 : BitVec 32 := Scalar.subi c1_i32_19 v32
  let v54 : BitVec 32 := Scalar.xori v50 v49
  let v55 : BitVec 32 := Scalar.addi v53 v54
  let c1_i32_55 : BitVec 32 := 1#32
  let v97 : BitVec 32 := Scalar.muli v55 c1_i32_55
  let v98 : BitVec 32 := Scalar.addi c0_i32_56 v97
  v98.toNat
def k0_mult3 (d0 : Dev nD) : BitVec 32 :=
  let c0_i32_67 : BitVec 32 := 0#32
  let c1_i32_65 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v111 : BitVec 32 := Scalar.subi c1_i32_65 v49
  let c512_i32_66 : BitVec 32 := 512#32
  let v112 : BitVec 32 := Scalar.muli v111 c512_i32_66
  let v113 : BitVec 32 := Scalar.addi c0_i32_67 v112
  v113
def k0_off3 (d0 : Dev nD) : Fin 2 → Nat :=
  let c344_i32 : BitVec 32 := 344#32
  let c0_i32_67 : BitVec 32 := 0#32
  let c1_i32_65 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v111 : BitVec 32 := Scalar.subi c1_i32_65 v49
  let c512_i32_66 : BitVec 32 := 512#32
  let v112 : BitVec 32 := Scalar.muli v111 c512_i32_66
  let v113 : BitVec 32 := Scalar.addi c0_i32_67 v112
  let v114 : BitVec 32 := v113
  ![344, v114.toNat]
def k0_dev6 (d0 : Dev nD) : Nat :=
  let c0_i32_70 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v57 : BitVec 32 := Scalar.muli c4_i32_23 v29
  let c2_i32_24 : BitVec 32 := 2#32
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v56 : BitVec 32 := Scalar.subi c1_i32_22 v49
  let v58 : BitVec 32 := Scalar.muli c2_i32_24 v56
  let v59 : BitVec 32 := Scalar.addi v57 v58
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v60 : BitVec 32 := Scalar.xori v32 v56
  let v61 : BitVec 32 := Scalar.addi v59 v60
  let c1_i32_69 : BitVec 32 := 1#32
  let v115 : BitVec 32 := Scalar.muli v61 c1_i32_69
  let v116 : BitVec 32 := Scalar.addi c0_i32_70 v115
  v116.toNat
def k0_mult4 (d0 : Dev nD) : BitVec 32 :=
  let c0_i32_75 : BitVec 32 := 0#32
  let c1_i32_73 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v123 : BitVec 32 := Scalar.subi c1_i32_73 v49
  let c512_i32_74 : BitVec 32 := 512#32
  let v124 : BitVec 32 := Scalar.muli v123 c512_i32_74
  let v125 : BitVec 32 := Scalar.addi c0_i32_75 v124
  v125
def k0_off4 (d0 : Dev nD) : Fin 2 → Nat :=
  let c512_i32_81 : BitVec 32 := 512#32
  let c0_i32_75 : BitVec 32 := 0#32
  let c1_i32_73 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v123 : BitVec 32 := Scalar.subi c1_i32_73 v49
  let c512_i32_74 : BitVec 32 := 512#32
  let v124 : BitVec 32 := Scalar.muli v123 c512_i32_74
  let v125 : BitVec 32 := Scalar.addi c0_i32_75 v124
  let v126 : BitVec 32 := v125
  ![512, v126.toNat]
def k0_dev7 (d0 : Dev nD) : Nat :=
  let c0_i32_78 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v57 : BitVec 32 := Scalar.muli c4_i32_23 v29
  let c2_i32_24 : BitVec 32 := 2#32
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v56 : BitVec 32 := Scalar.subi c1_i32_22 v49
  let v58 : BitVec 32 := Scalar.muli c2_i32_24 v56
  let v59 : BitVec 32 := Scalar.addi v57 v58
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v60 : BitVec 32 := Scalar.xori v32 v56
  let v61 : BitVec 32 := Scalar.addi v59 v60
  let c1_i32_77 : BitVec 32 := 1#32
  let v127 : BitVec 32 := Scalar.muli v61 c1_i32_77
  let v128 : BitVec 32 := Scalar.addi c0_i32_78 v127
  v128.toNat
def k0_mult5 (d0 : Dev nD) : BitVec 32 :=
  let c0_i32_90 : BitVec 32 := 0#32
  let c1_i32_88 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v141 : BitVec 32 := Scalar.subi c1_i32_88 v29
  let c512_i32_89 : BitVec 32 := 512#32
  let v142 : BitVec 32 := Scalar.muli v141 c512_i32_89
  let v143 : BitVec 32 := Scalar.addi c0_i32_90 v142
  v143
def k0_off5 (d0 : Dev nD) : Fin 2 → Nat :=
  let c688_i32 : BitVec 32 := 688#32
  let c0_i32_90 : BitVec 32 := 0#32
  let c1_i32_88 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v141 : BitVec 32 := Scalar.subi c1_i32_88 v29
  let c512_i32_89 : BitVec 32 := 512#32
  let v142 : BitVec 32 := Scalar.muli v141 c512_i32_89
  let v143 : BitVec 32 := Scalar.addi c0_i32_90 v142
  let v144 : BitVec 32 := v143
  ![688, v144.toNat]
def k0_dev8 (d0 : Dev nD) : Nat :=
  let c0_i32_93 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v62 : BitVec 32 := Scalar.subi c1_i32_25 v29
  let v63 : BitVec 32 := Scalar.muli c4_i32_26 v62
  let c2_i32_27 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v64 : BitVec 32 := Scalar.muli c2_i32_27 v49
  let v65 : BitVec 32 := Scalar.addi v63 v64
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v66 : BitVec 32 := Scalar.xori v32 v49
  let v67 : BitVec 32 := Scalar.addi v65 v66
  let c1_i32_92 : BitVec 32 := 1#32
  let v145 : BitVec 32 := Scalar.muli v67 c1_i32_92
  let v146 : BitVec 32 := Scalar.addi c0_i32_93 v145
  v146.toNat
def k0_mult6 (d0 : Dev nD) : BitVec 32 :=
  let c0_i32_98 : BitVec 32 := 0#32
  let c1_i32_96 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v153 : BitVec 32 := Scalar.subi c1_i32_96 v29
  let c512_i32_97 : BitVec 32 := 512#32
  let v154 : BitVec 32 := Scalar.muli v153 c512_i32_97
  let v155 : BitVec 32 := Scalar.addi c0_i32_98 v154
  v155
def k0_off6 (d0 : Dev nD) : Fin 2 → Nat :=
  let c856_i32 : BitVec 32 := 856#32
  let c0_i32_98 : BitVec 32 := 0#32
  let c1_i32_96 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v153 : BitVec 32 := Scalar.subi c1_i32_96 v29
  let c512_i32_97 : BitVec 32 := 512#32
  let v154 : BitVec 32 := Scalar.muli v153 c512_i32_97
  let v155 : BitVec 32 := Scalar.addi c0_i32_98 v154
  let v156 : BitVec 32 := v155
  ![856, v156.toNat]
def k0_dev9 (d0 : Dev nD) : Nat :=
  let c0_i32_101 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v62 : BitVec 32 := Scalar.subi c1_i32_25 v29
  let v63 : BitVec 32 := Scalar.muli c4_i32_26 v62
  let c2_i32_27 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v64 : BitVec 32 := Scalar.muli c2_i32_27 v49
  let v65 : BitVec 32 := Scalar.addi v63 v64
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v66 : BitVec 32 := Scalar.xori v32 v49
  let v67 : BitVec 32 := Scalar.addi v65 v66
  let c1_i32_100 : BitVec 32 := 1#32
  let v157 : BitVec 32 := Scalar.muli v67 c1_i32_100
  let v158 : BitVec 32 := Scalar.addi c0_i32_101 v157
  v158.toNat
def k0_mult7 (d0 : Dev nD) : BitVec 32 :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  v176
def k0_off7 (d0 : Dev nD) : Fin 2 → Nat :=
  let c0_119 : Index := 0#32
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let v177 : BitVec 32 := v176
  let v178 : Index := Scalar.indexCast v177
  ![0, v178.toNat]
def k0_mult8 (d0 : Dev nD) : BitVec 32 :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  v176
def k0_mult9 (d0 : Dev nD) : BitVec 32 :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c1_i32_123 : BitVec 32 := 1#32
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v186 : BitVec 32 := Scalar.subi c1_i32_123 v49
  let c256_i32 : BitVec 32 := 256#32
  let v187 : BitVec 32 := Scalar.muli v186 c256_i32
  let v188 : BitVec 32 := Scalar.addi v176 v187
  v188
def k0_off8 (d0 : Dev nD) : Fin 2 → Nat :=
  let c0_i32_130 : BitVec 32 := 0#32
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c1_i32_123 : BitVec 32 := 1#32
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v186 : BitVec 32 := Scalar.subi c1_i32_123 v49
  let c256_i32 : BitVec 32 := 256#32
  let v187 : BitVec 32 := Scalar.muli v186 c256_i32
  let v188 : BitVec 32 := Scalar.addi v176 v187
  let v189 : BitVec 32 := v188
  ![0, v189.toNat]
def k0_dev10 (d0 : Dev nD) : Nat :=
  let c0_i32_127 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v57 : BitVec 32 := Scalar.muli c4_i32_23 v29
  let c2_i32_24 : BitVec 32 := 2#32
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v56 : BitVec 32 := Scalar.subi c1_i32_22 v49
  let v58 : BitVec 32 := Scalar.muli c2_i32_24 v56
  let v59 : BitVec 32 := Scalar.addi v57 v58
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v60 : BitVec 32 := Scalar.xori v32 v56
  let v61 : BitVec 32 := Scalar.addi v59 v60
  let c1_i32_126 : BitVec 32 := 1#32
  let v190 : BitVec 32 := Scalar.muli v61 c1_i32_126
  let v191 : BitVec 32 := Scalar.addi c0_i32_127 v190
  v191.toNat
def k0_mult10 (d0 : Dev nD) : BitVec 32 :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  v209
def k0_off9 (d0 : Dev nD) : Fin 2 → Nat :=
  let c168 : Index := 168#32
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let v210 : BitVec 32 := v209
  let v211 : Index := Scalar.indexCast v210
  ![168, v211.toNat]
def k0_mult11 (d0 : Dev nD) : BitVec 32 :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  v209
def k0_mult12 (d0 : Dev nD) : BitVec 32 :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c1_i32_149 : BitVec 32 := 1#32
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v219 : BitVec 32 := Scalar.subi c1_i32_149 v49
  let c256_i32_150 : BitVec 32 := 256#32
  let v220 : BitVec 32 := Scalar.muli v219 c256_i32_150
  let v221 : BitVec 32 := Scalar.addi v209 v220
  v221
def k0_off10 (d0 : Dev nD) : Fin 2 → Nat :=
  let c168_i32_156 : BitVec 32 := 168#32
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c1_i32_149 : BitVec 32 := 1#32
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v219 : BitVec 32 := Scalar.subi c1_i32_149 v49
  let c256_i32_150 : BitVec 32 := 256#32
  let v220 : BitVec 32 := Scalar.muli v219 c256_i32_150
  let v221 : BitVec 32 := Scalar.addi v209 v220
  let v222 : BitVec 32 := v221
  ![168, v222.toNat]
def k0_dev11 (d0 : Dev nD) : Nat :=
  let c0_i32_153 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v57 : BitVec 32 := Scalar.muli c4_i32_23 v29
  let c2_i32_24 : BitVec 32 := 2#32
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v56 : BitVec 32 := Scalar.subi c1_i32_22 v49
  let v58 : BitVec 32 := Scalar.muli c2_i32_24 v56
  let v59 : BitVec 32 := Scalar.addi v57 v58
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v60 : BitVec 32 := Scalar.xori v32 v56
  let v61 : BitVec 32 := Scalar.addi v59 v60
  let c1_i32_152 : BitVec 32 := 1#32
  let v223 : BitVec 32 := Scalar.muli v61 c1_i32_152
  let v224 : BitVec 32 := Scalar.addi c0_i32_153 v223
  v224.toNat
def k0_mult13 (d0 : Dev nD) : BitVec 32 :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  v242
def k0_off11 (d0 : Dev nD) : Fin 2 → Nat :=
  let c344_172 : Index := 344#32
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let v243 : BitVec 32 := v242
  let v244 : Index := Scalar.indexCast v243
  ![344, v244.toNat]
def k0_mult14 (d0 : Dev nD) : BitVec 32 :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  v242
def k0_mult15 (d0 : Dev nD) : BitVec 32 :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c1_i32_176 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v252 : BitVec 32 := Scalar.subi c1_i32_176 v29
  let c256_i32_177 : BitVec 32 := 256#32
  let v253 : BitVec 32 := Scalar.muli v252 c256_i32_177
  let v254 : BitVec 32 := Scalar.addi v242 v253
  v254
def k0_off12 (d0 : Dev nD) : Fin 2 → Nat :=
  let c344_i32_183 : BitVec 32 := 344#32
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c1_i32_176 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v252 : BitVec 32 := Scalar.subi c1_i32_176 v29
  let c256_i32_177 : BitVec 32 := 256#32
  let v253 : BitVec 32 := Scalar.muli v252 c256_i32_177
  let v254 : BitVec 32 := Scalar.addi v242 v253
  let v255 : BitVec 32 := v254
  ![344, v255.toNat]
def k0_dev12 (d0 : Dev nD) : Nat :=
  let c0_i32_180 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v62 : BitVec 32 := Scalar.subi c1_i32_25 v29
  let v63 : BitVec 32 := Scalar.muli c4_i32_26 v62
  let c2_i32_27 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v64 : BitVec 32 := Scalar.muli c2_i32_27 v49
  let v65 : BitVec 32 := Scalar.addi v63 v64
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v66 : BitVec 32 := Scalar.xori v32 v49
  let v67 : BitVec 32 := Scalar.addi v65 v66
  let c1_i32_179 : BitVec 32 := 1#32
  let v256 : BitVec 32 := Scalar.muli v67 c1_i32_179
  let v257 : BitVec 32 := Scalar.addi c0_i32_180 v256
  v257.toNat
def k0_mult16 (d0 : Dev nD) : BitVec 32 :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  v275
def k0_off13 (d0 : Dev nD) : Fin 2 → Nat :=
  let c512 : Index := 512#32
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let v276 : BitVec 32 := v275
  let v277 : Index := Scalar.indexCast v276
  ![512, v277.toNat]
def k0_mult17 (d0 : Dev nD) : BitVec 32 :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  v275
def k0_mult18 (d0 : Dev nD) : BitVec 32 :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c1_i32_202 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v285 : BitVec 32 := Scalar.subi c1_i32_202 v29
  let c256_i32_203 : BitVec 32 := 256#32
  let v286 : BitVec 32 := Scalar.muli v285 c256_i32_203
  let v287 : BitVec 32 := Scalar.addi v275 v286
  v287
def k0_off14 (d0 : Dev nD) : Fin 2 → Nat :=
  let c512_i32_209 : BitVec 32 := 512#32
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c1_i32_202 : BitVec 32 := 1#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v285 : BitVec 32 := Scalar.subi c1_i32_202 v29
  let c256_i32_203 : BitVec 32 := 256#32
  let v286 : BitVec 32 := Scalar.muli v285 c256_i32_203
  let v287 : BitVec 32 := Scalar.addi v275 v286
  let v288 : BitVec 32 := v287
  ![512, v288.toNat]
def k0_dev13 (d0 : Dev nD) : Nat :=
  let c0_i32_206 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v62 : BitVec 32 := Scalar.subi c1_i32_25 v29
  let v63 : BitVec 32 := Scalar.muli c4_i32_26 v62
  let c2_i32_27 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v64 : BitVec 32 := Scalar.muli c2_i32_27 v49
  let v65 : BitVec 32 := Scalar.addi v63 v64
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v66 : BitVec 32 := Scalar.xori v32 v49
  let v67 : BitVec 32 := Scalar.addi v65 v66
  let c1_i32_205 : BitVec 32 := 1#32
  let v289 : BitVec 32 := Scalar.muli v67 c1_i32_205
  let v290 : BitVec 32 := Scalar.addi c0_i32_206 v289
  v290.toNat
def k0_mult19 (d0 : Dev nD) : BitVec 32 :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  v308
def k0_off15 (d0 : Dev nD) : Fin 2 → Nat :=
  let c688_225 : Index := 688#32
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let v309 : BitVec 32 := v308
  let v310 : Index := Scalar.indexCast v309
  ![688, v310.toNat]
def k0_mult20 (d0 : Dev nD) : BitVec 32 :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  v308
def k0_mult21 (d0 : Dev nD) : BitVec 32 :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c1_i32_229 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v318 : BitVec 32 := Scalar.subi c1_i32_229 v32
  let c256_i32_230 : BitVec 32 := 256#32
  let v319 : BitVec 32 := Scalar.muli v318 c256_i32_230
  let v320 : BitVec 32 := Scalar.addi v308 v319
  v320
def k0_off16 (d0 : Dev nD) : Fin 2 → Nat :=
  let c688_i32_236 : BitVec 32 := 688#32
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c1_i32_229 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v318 : BitVec 32 := Scalar.subi c1_i32_229 v32
  let c256_i32_230 : BitVec 32 := 256#32
  let v319 : BitVec 32 := Scalar.muli v318 c256_i32_230
  let v320 : BitVec 32 := Scalar.addi v308 v319
  let v321 : BitVec 32 := v320
  ![688, v321.toNat]
def k0_dev14 (d0 : Dev nD) : Nat :=
  let c0_i32_233 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v51 : BitVec 32 := Scalar.muli c4_i32_20 v29
  let c2_i32_21 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v52 : BitVec 32 := Scalar.muli c2_i32_21 v49
  let v53 : BitVec 32 := Scalar.addi v51 v52
  let c1_i32_19 : BitVec 32 := 1#32
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v50 : BitVec 32 := Scalar.subi c1_i32_19 v32
  let v54 : BitVec 32 := Scalar.xori v50 v49
  let v55 : BitVec 32 := Scalar.addi v53 v54
  let c1_i32_232 : BitVec 32 := 1#32
  let v322 : BitVec 32 := Scalar.muli v55 c1_i32_232
  let v323 : BitVec 32 := Scalar.addi c0_i32_233 v322
  v323.toNat
def k0_mult22 (d0 : Dev nD) : BitVec 32 :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  v341
def k0_off17 (d0 : Dev nD) : Fin 2 → Nat :=
  let c856 : Index := 856#32
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let v342 : BitVec 32 := v341
  let v343 : Index := Scalar.indexCast v342
  ![856, v343.toNat]
def k0_mult23 (d0 : Dev nD) : BitVec 32 :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  v341
def k0_mult24 (d0 : Dev nD) : BitVec 32 :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c1_i32_255 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v351 : BitVec 32 := Scalar.subi c1_i32_255 v32
  let c256_i32_256 : BitVec 32 := 256#32
  let v352 : BitVec 32 := Scalar.muli v351 c256_i32_256
  let v353 : BitVec 32 := Scalar.addi v341 v352
  v353
def k0_off18 (d0 : Dev nD) : Fin 2 → Nat :=
  let c856_i32_262 : BitVec 32 := 856#32
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c1_i32_255 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v351 : BitVec 32 := Scalar.subi c1_i32_255 v32
  let c256_i32_256 : BitVec 32 := 256#32
  let v352 : BitVec 32 := Scalar.muli v351 c256_i32_256
  let v353 : BitVec 32 := Scalar.addi v341 v352
  let v354 : BitVec 32 := v353
  ![856, v354.toNat]
def k0_dev15 (d0 : Dev nD) : Nat :=
  let c0_i32_259 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v51 : BitVec 32 := Scalar.muli c4_i32_20 v29
  let c2_i32_21 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v52 : BitVec 32 := Scalar.muli c2_i32_21 v49
  let v53 : BitVec 32 := Scalar.addi v51 v52
  let c1_i32_19 : BitVec 32 := 1#32
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v50 : BitVec 32 := Scalar.subi c1_i32_19 v32
  let v54 : BitVec 32 := Scalar.xori v50 v49
  let v55 : BitVec 32 := Scalar.addi v53 v54
  let c1_i32_258 : BitVec 32 := 1#32
  let v355 : BitVec 32 := Scalar.muli v55 c1_i32_258
  let v356 : BitVec 32 := Scalar.addi c0_i32_259 v355
  v356.toNat
def k0_mult25 (d0 : Dev nD) : BitVec 32 :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_276 : BitVec 32 := 256#32
  let v373 : BitVec 32 := Scalar.muli v49 c256_i32_276
  let v374 : BitVec 32 := Scalar.addi v176 v373
  v374
def k0_off19 (d0 : Dev nD) : Fin 2 → Nat :=
  let c0_277 : Index := 0#32
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_276 : BitVec 32 := 256#32
  let v373 : BitVec 32 := Scalar.muli v49 c256_i32_276
  let v374 : BitVec 32 := Scalar.addi v176 v373
  let v375 : BitVec 32 := v374
  let v376 : Index := Scalar.indexCast v375
  ![0, v376.toNat]
def k0_mult26 (d0 : Dev nD) : BitVec 32 :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_276 : BitVec 32 := 256#32
  let v373 : BitVec 32 := Scalar.muli v49 c256_i32_276
  let v374 : BitVec 32 := Scalar.addi v176 v373
  v374
def k0_mult27 (d0 : Dev nD) : BitVec 32 :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_276 : BitVec 32 := 256#32
  let v373 : BitVec 32 := Scalar.muli v49 c256_i32_276
  let v374 : BitVec 32 := Scalar.addi v176 v373
  v374
def k0_off20 (d0 : Dev nD) : Fin 2 → Nat :=
  let c0_i32_286 : BitVec 32 := 0#32
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_276 : BitVec 32 := 256#32
  let v373 : BitVec 32 := Scalar.muli v49 c256_i32_276
  let v374 : BitVec 32 := Scalar.addi v176 v373
  let v384 : BitVec 32 := v374
  ![0, v384.toNat]
def k0_dev16 (d0 : Dev nD) : Nat :=
  let c0_i32_284 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v62 : BitVec 32 := Scalar.subi c1_i32_25 v29
  let v63 : BitVec 32 := Scalar.muli c4_i32_26 v62
  let c2_i32_27 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v64 : BitVec 32 := Scalar.muli c2_i32_27 v49
  let v65 : BitVec 32 := Scalar.addi v63 v64
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v66 : BitVec 32 := Scalar.xori v32 v49
  let v67 : BitVec 32 := Scalar.addi v65 v66
  let c1_i32_283 : BitVec 32 := 1#32
  let v385 : BitVec 32 := Scalar.muli v67 c1_i32_283
  let v386 : BitVec 32 := Scalar.addi c0_i32_284 v385
  v386.toNat
def k0_mult28 (d0 : Dev nD) : BitVec 32 :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_300 : BitVec 32 := 256#32
  let v403 : BitVec 32 := Scalar.muli v49 c256_i32_300
  let v404 : BitVec 32 := Scalar.addi v209 v403
  v404
def k0_off21 (d0 : Dev nD) : Fin 2 → Nat :=
  let c168_301 : Index := 168#32
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_300 : BitVec 32 := 256#32
  let v403 : BitVec 32 := Scalar.muli v49 c256_i32_300
  let v404 : BitVec 32 := Scalar.addi v209 v403
  let v405 : BitVec 32 := v404
  let v406 : Index := Scalar.indexCast v405
  ![168, v406.toNat]
def k0_mult29 (d0 : Dev nD) : BitVec 32 :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_300 : BitVec 32 := 256#32
  let v403 : BitVec 32 := Scalar.muli v49 c256_i32_300
  let v404 : BitVec 32 := Scalar.addi v209 v403
  v404
def k0_mult30 (d0 : Dev nD) : BitVec 32 :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_300 : BitVec 32 := 256#32
  let v403 : BitVec 32 := Scalar.muli v49 c256_i32_300
  let v404 : BitVec 32 := Scalar.addi v209 v403
  v404
def k0_off22 (d0 : Dev nD) : Fin 2 → Nat :=
  let c168_i32_310 : BitVec 32 := 168#32
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_300 : BitVec 32 := 256#32
  let v403 : BitVec 32 := Scalar.muli v49 c256_i32_300
  let v404 : BitVec 32 := Scalar.addi v209 v403
  let v414 : BitVec 32 := v404
  ![168, v414.toNat]
def k0_dev17 (d0 : Dev nD) : Nat :=
  let c0_i32_307 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v62 : BitVec 32 := Scalar.subi c1_i32_25 v29
  let v63 : BitVec 32 := Scalar.muli c4_i32_26 v62
  let c2_i32_27 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v64 : BitVec 32 := Scalar.muli c2_i32_27 v49
  let v65 : BitVec 32 := Scalar.addi v63 v64
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v66 : BitVec 32 := Scalar.xori v32 v49
  let v67 : BitVec 32 := Scalar.addi v65 v66
  let c1_i32_306 : BitVec 32 := 1#32
  let v415 : BitVec 32 := Scalar.muli v67 c1_i32_306
  let v416 : BitVec 32 := Scalar.addi c0_i32_307 v415
  v416.toNat
def k0_mult31 (d0 : Dev nD) : BitVec 32 :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_324 : BitVec 32 := 256#32
  let v433 : BitVec 32 := Scalar.muli v29 c256_i32_324
  let v434 : BitVec 32 := Scalar.addi v242 v433
  v434
def k0_off23 (d0 : Dev nD) : Fin 2 → Nat :=
  let c344_325 : Index := 344#32
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_324 : BitVec 32 := 256#32
  let v433 : BitVec 32 := Scalar.muli v29 c256_i32_324
  let v434 : BitVec 32 := Scalar.addi v242 v433
  let v435 : BitVec 32 := v434
  let v436 : Index := Scalar.indexCast v435
  ![344, v436.toNat]
def k0_mult32 (d0 : Dev nD) : BitVec 32 :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_324 : BitVec 32 := 256#32
  let v433 : BitVec 32 := Scalar.muli v29 c256_i32_324
  let v434 : BitVec 32 := Scalar.addi v242 v433
  v434
def k0_mult33 (d0 : Dev nD) : BitVec 32 :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_324 : BitVec 32 := 256#32
  let v433 : BitVec 32 := Scalar.muli v29 c256_i32_324
  let v434 : BitVec 32 := Scalar.addi v242 v433
  v434
def k0_off24 (d0 : Dev nD) : Fin 2 → Nat :=
  let c344_i32_334 : BitVec 32 := 344#32
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_324 : BitVec 32 := 256#32
  let v433 : BitVec 32 := Scalar.muli v29 c256_i32_324
  let v434 : BitVec 32 := Scalar.addi v242 v433
  let v444 : BitVec 32 := v434
  ![344, v444.toNat]
def k0_dev18 (d0 : Dev nD) : Nat :=
  let c0_i32_331 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v51 : BitVec 32 := Scalar.muli c4_i32_20 v29
  let c2_i32_21 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v52 : BitVec 32 := Scalar.muli c2_i32_21 v49
  let v53 : BitVec 32 := Scalar.addi v51 v52
  let c1_i32_19 : BitVec 32 := 1#32
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v50 : BitVec 32 := Scalar.subi c1_i32_19 v32
  let v54 : BitVec 32 := Scalar.xori v50 v49
  let v55 : BitVec 32 := Scalar.addi v53 v54
  let c1_i32_330 : BitVec 32 := 1#32
  let v445 : BitVec 32 := Scalar.muli v55 c1_i32_330
  let v446 : BitVec 32 := Scalar.addi c0_i32_331 v445
  v446.toNat
def k0_mult34 (d0 : Dev nD) : BitVec 32 :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_348 : BitVec 32 := 256#32
  let v463 : BitVec 32 := Scalar.muli v29 c256_i32_348
  let v464 : BitVec 32 := Scalar.addi v275 v463
  v464
def k0_off25 (d0 : Dev nD) : Fin 2 → Nat :=
  let c512_349 : Index := 512#32
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_348 : BitVec 32 := 256#32
  let v463 : BitVec 32 := Scalar.muli v29 c256_i32_348
  let v464 : BitVec 32 := Scalar.addi v275 v463
  let v465 : BitVec 32 := v464
  let v466 : Index := Scalar.indexCast v465
  ![512, v466.toNat]
def k0_mult35 (d0 : Dev nD) : BitVec 32 :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_348 : BitVec 32 := 256#32
  let v463 : BitVec 32 := Scalar.muli v29 c256_i32_348
  let v464 : BitVec 32 := Scalar.addi v275 v463
  v464
def k0_mult36 (d0 : Dev nD) : BitVec 32 :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_348 : BitVec 32 := 256#32
  let v463 : BitVec 32 := Scalar.muli v29 c256_i32_348
  let v464 : BitVec 32 := Scalar.addi v275 v463
  v464
def k0_off26 (d0 : Dev nD) : Fin 2 → Nat :=
  let c512_i32_358 : BitVec 32 := 512#32
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_348 : BitVec 32 := 256#32
  let v463 : BitVec 32 := Scalar.muli v29 c256_i32_348
  let v464 : BitVec 32 := Scalar.addi v275 v463
  let v474 : BitVec 32 := v464
  ![512, v474.toNat]
def k0_dev19 (d0 : Dev nD) : Nat :=
  let c0_i32_355 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v51 : BitVec 32 := Scalar.muli c4_i32_20 v29
  let c2_i32_21 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v52 : BitVec 32 := Scalar.muli c2_i32_21 v49
  let v53 : BitVec 32 := Scalar.addi v51 v52
  let c1_i32_19 : BitVec 32 := 1#32
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v50 : BitVec 32 := Scalar.subi c1_i32_19 v32
  let v54 : BitVec 32 := Scalar.xori v50 v49
  let v55 : BitVec 32 := Scalar.addi v53 v54
  let c1_i32_354 : BitVec 32 := 1#32
  let v475 : BitVec 32 := Scalar.muli v55 c1_i32_354
  let v476 : BitVec 32 := Scalar.addi c0_i32_355 v475
  v476.toNat
def k0_mult37 (d0 : Dev nD) : BitVec 32 :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_372 : BitVec 32 := 256#32
  let v493 : BitVec 32 := Scalar.muli v32 c256_i32_372
  let v494 : BitVec 32 := Scalar.addi v308 v493
  v494
def k0_off27 (d0 : Dev nD) : Fin 2 → Nat :=
  let c688_373 : Index := 688#32
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_372 : BitVec 32 := 256#32
  let v493 : BitVec 32 := Scalar.muli v32 c256_i32_372
  let v494 : BitVec 32 := Scalar.addi v308 v493
  let v495 : BitVec 32 := v494
  let v496 : Index := Scalar.indexCast v495
  ![688, v496.toNat]
def k0_mult38 (d0 : Dev nD) : BitVec 32 :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_372 : BitVec 32 := 256#32
  let v493 : BitVec 32 := Scalar.muli v32 c256_i32_372
  let v494 : BitVec 32 := Scalar.addi v308 v493
  v494
def k0_mult39 (d0 : Dev nD) : BitVec 32 :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_372 : BitVec 32 := 256#32
  let v493 : BitVec 32 := Scalar.muli v32 c256_i32_372
  let v494 : BitVec 32 := Scalar.addi v308 v493
  v494
def k0_off28 (d0 : Dev nD) : Fin 2 → Nat :=
  let c688_i32_382 : BitVec 32 := 688#32
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_372 : BitVec 32 := 256#32
  let v493 : BitVec 32 := Scalar.muli v32 c256_i32_372
  let v494 : BitVec 32 := Scalar.addi v308 v493
  let v504 : BitVec 32 := v494
  ![688, v504.toNat]
def k0_dev20 (d0 : Dev nD) : Nat :=
  let c0_i32_379 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v57 : BitVec 32 := Scalar.muli c4_i32_23 v29
  let c2_i32_24 : BitVec 32 := 2#32
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v56 : BitVec 32 := Scalar.subi c1_i32_22 v49
  let v58 : BitVec 32 := Scalar.muli c2_i32_24 v56
  let v59 : BitVec 32 := Scalar.addi v57 v58
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v60 : BitVec 32 := Scalar.xori v32 v56
  let v61 : BitVec 32 := Scalar.addi v59 v60
  let c1_i32_378 : BitVec 32 := 1#32
  let v505 : BitVec 32 := Scalar.muli v61 c1_i32_378
  let v506 : BitVec 32 := Scalar.addi c0_i32_379 v505
  v506.toNat
def k0_mult40 (d0 : Dev nD) : BitVec 32 :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_396 : BitVec 32 := 256#32
  let v523 : BitVec 32 := Scalar.muli v32 c256_i32_396
  let v524 : BitVec 32 := Scalar.addi v341 v523
  v524
def k0_off29 (d0 : Dev nD) : Fin 2 → Nat :=
  let c856_397 : Index := 856#32
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_396 : BitVec 32 := 256#32
  let v523 : BitVec 32 := Scalar.muli v32 c256_i32_396
  let v524 : BitVec 32 := Scalar.addi v341 v523
  let v525 : BitVec 32 := v524
  let v526 : Index := Scalar.indexCast v525
  ![856, v526.toNat]
def k0_mult41 (d0 : Dev nD) : BitVec 32 :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_396 : BitVec 32 := 256#32
  let v523 : BitVec 32 := Scalar.muli v32 c256_i32_396
  let v524 : BitVec 32 := Scalar.addi v341 v523
  v524
def k0_mult42 (d0 : Dev nD) : BitVec 32 :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_396 : BitVec 32 := 256#32
  let v523 : BitVec 32 := Scalar.muli v32 c256_i32_396
  let v524 : BitVec 32 := Scalar.addi v341 v523
  v524
def k0_off30 (d0 : Dev nD) : Fin 2 → Nat :=
  let c856_i32_406 : BitVec 32 := 856#32
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_396 : BitVec 32 := 256#32
  let v523 : BitVec 32 := Scalar.muli v32 c256_i32_396
  let v524 : BitVec 32 := Scalar.addi v341 v523
  let v534 : BitVec 32 := v524
  ![856, v534.toNat]
def k0_dev21 (d0 : Dev nD) : Nat :=
  let c0_i32_403 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v57 : BitVec 32 := Scalar.muli c4_i32_23 v29
  let c2_i32_24 : BitVec 32 := 2#32
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v56 : BitVec 32 := Scalar.subi c1_i32_22 v49
  let v58 : BitVec 32 := Scalar.muli c2_i32_24 v56
  let v59 : BitVec 32 := Scalar.addi v57 v58
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v60 : BitVec 32 := Scalar.xori v32 v56
  let v61 : BitVec 32 := Scalar.addi v59 v60
  let c1_i32_402 : BitVec 32 := 1#32
  let v535 : BitVec 32 := Scalar.muli v61 c1_i32_402
  let v536 : BitVec 32 := Scalar.addi c0_i32_403 v535
  v536.toNat
def k0_mult43 (d0 : Dev nD) : BitVec 32 :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_276 : BitVec 32 := 256#32
  let v373 : BitVec 32 := Scalar.muli v49 c256_i32_276
  let v374 : BitVec 32 := Scalar.addi v176 v373
  v374
def k0_mult44 (d0 : Dev nD) : BitVec 32 :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_276 : BitVec 32 := 256#32
  let v373 : BitVec 32 := Scalar.muli v49 c256_i32_276
  let v374 : BitVec 32 := Scalar.addi v176 v373
  v374
def k0_mult45 (d0 : Dev nD) : BitVec 32 :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_276 : BitVec 32 := 256#32
  let v373 : BitVec 32 := Scalar.muli v49 c256_i32_276
  let v374 : BitVec 32 := Scalar.addi v176 v373
  v374
def k0_mult46 (d0 : Dev nD) : BitVec 32 :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_276 : BitVec 32 := 256#32
  let v373 : BitVec 32 := Scalar.muli v49 c256_i32_276
  let v374 : BitVec 32 := Scalar.addi v176 v373
  v374
def k0_dev22 (d0 : Dev nD) : Nat :=
  let c0_i32_426 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v57 : BitVec 32 := Scalar.muli c4_i32_23 v29
  let c2_i32_24 : BitVec 32 := 2#32
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v56 : BitVec 32 := Scalar.subi c1_i32_22 v49
  let v58 : BitVec 32 := Scalar.muli c2_i32_24 v56
  let v59 : BitVec 32 := Scalar.addi v57 v58
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v60 : BitVec 32 := Scalar.xori v32 v56
  let v61 : BitVec 32 := Scalar.addi v59 v60
  let c1_i32_425 : BitVec 32 := 1#32
  let v564 : BitVec 32 := Scalar.muli v61 c1_i32_425
  let v565 : BitVec 32 := Scalar.addi c0_i32_426 v564
  v565.toNat
def k0_mult47 (d0 : Dev nD) : BitVec 32 :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_300 : BitVec 32 := 256#32
  let v403 : BitVec 32 := Scalar.muli v49 c256_i32_300
  let v404 : BitVec 32 := Scalar.addi v209 v403
  v404
def k0_mult48 (d0 : Dev nD) : BitVec 32 :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_300 : BitVec 32 := 256#32
  let v403 : BitVec 32 := Scalar.muli v49 c256_i32_300
  let v404 : BitVec 32 := Scalar.addi v209 v403
  v404
def k0_mult49 (d0 : Dev nD) : BitVec 32 :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_300 : BitVec 32 := 256#32
  let v403 : BitVec 32 := Scalar.muli v49 c256_i32_300
  let v404 : BitVec 32 := Scalar.addi v209 v403
  v404
def k0_mult50 (d0 : Dev nD) : BitVec 32 :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_300 : BitVec 32 := 256#32
  let v403 : BitVec 32 := Scalar.muli v49 c256_i32_300
  let v404 : BitVec 32 := Scalar.addi v209 v403
  v404
def k0_dev23 (d0 : Dev nD) : Nat :=
  let c0_i32_449 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v57 : BitVec 32 := Scalar.muli c4_i32_23 v29
  let c2_i32_24 : BitVec 32 := 2#32
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v56 : BitVec 32 := Scalar.subi c1_i32_22 v49
  let v58 : BitVec 32 := Scalar.muli c2_i32_24 v56
  let v59 : BitVec 32 := Scalar.addi v57 v58
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v60 : BitVec 32 := Scalar.xori v32 v56
  let v61 : BitVec 32 := Scalar.addi v59 v60
  let c1_i32_448 : BitVec 32 := 1#32
  let v593 : BitVec 32 := Scalar.muli v61 c1_i32_448
  let v594 : BitVec 32 := Scalar.addi c0_i32_449 v593
  v594.toNat
def k0_mult51 (d0 : Dev nD) : BitVec 32 :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_324 : BitVec 32 := 256#32
  let v433 : BitVec 32 := Scalar.muli v29 c256_i32_324
  let v434 : BitVec 32 := Scalar.addi v242 v433
  v434
def k0_mult52 (d0 : Dev nD) : BitVec 32 :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_324 : BitVec 32 := 256#32
  let v433 : BitVec 32 := Scalar.muli v29 c256_i32_324
  let v434 : BitVec 32 := Scalar.addi v242 v433
  v434
def k0_mult53 (d0 : Dev nD) : BitVec 32 :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_324 : BitVec 32 := 256#32
  let v433 : BitVec 32 := Scalar.muli v29 c256_i32_324
  let v434 : BitVec 32 := Scalar.addi v242 v433
  v434
def k0_mult54 (d0 : Dev nD) : BitVec 32 :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_324 : BitVec 32 := 256#32
  let v433 : BitVec 32 := Scalar.muli v29 c256_i32_324
  let v434 : BitVec 32 := Scalar.addi v242 v433
  v434
def k0_dev24 (d0 : Dev nD) : Nat :=
  let c0_i32_471 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v62 : BitVec 32 := Scalar.subi c1_i32_25 v29
  let v63 : BitVec 32 := Scalar.muli c4_i32_26 v62
  let c2_i32_27 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v64 : BitVec 32 := Scalar.muli c2_i32_27 v49
  let v65 : BitVec 32 := Scalar.addi v63 v64
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v66 : BitVec 32 := Scalar.xori v32 v49
  let v67 : BitVec 32 := Scalar.addi v65 v66
  let c1_i32_470 : BitVec 32 := 1#32
  let v622 : BitVec 32 := Scalar.muli v67 c1_i32_470
  let v623 : BitVec 32 := Scalar.addi c0_i32_471 v622
  v623.toNat
def k0_mult55 (d0 : Dev nD) : BitVec 32 :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_348 : BitVec 32 := 256#32
  let v463 : BitVec 32 := Scalar.muli v29 c256_i32_348
  let v464 : BitVec 32 := Scalar.addi v275 v463
  v464
def k0_mult56 (d0 : Dev nD) : BitVec 32 :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_348 : BitVec 32 := 256#32
  let v463 : BitVec 32 := Scalar.muli v29 c256_i32_348
  let v464 : BitVec 32 := Scalar.addi v275 v463
  v464
def k0_mult57 (d0 : Dev nD) : BitVec 32 :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_348 : BitVec 32 := 256#32
  let v463 : BitVec 32 := Scalar.muli v29 c256_i32_348
  let v464 : BitVec 32 := Scalar.addi v275 v463
  v464
def k0_mult58 (d0 : Dev nD) : BitVec 32 :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_348 : BitVec 32 := 256#32
  let v463 : BitVec 32 := Scalar.muli v29 c256_i32_348
  let v464 : BitVec 32 := Scalar.addi v275 v463
  v464
def k0_dev25 (d0 : Dev nD) : Nat :=
  let c0_i32_493 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v62 : BitVec 32 := Scalar.subi c1_i32_25 v29
  let v63 : BitVec 32 := Scalar.muli c4_i32_26 v62
  let c2_i32_27 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v64 : BitVec 32 := Scalar.muli c2_i32_27 v49
  let v65 : BitVec 32 := Scalar.addi v63 v64
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v66 : BitVec 32 := Scalar.xori v32 v49
  let v67 : BitVec 32 := Scalar.addi v65 v66
  let c1_i32_492 : BitVec 32 := 1#32
  let v651 : BitVec 32 := Scalar.muli v67 c1_i32_492
  let v652 : BitVec 32 := Scalar.addi c0_i32_493 v651
  v652.toNat
def k0_mult59 (d0 : Dev nD) : BitVec 32 :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_372 : BitVec 32 := 256#32
  let v493 : BitVec 32 := Scalar.muli v32 c256_i32_372
  let v494 : BitVec 32 := Scalar.addi v308 v493
  v494
def k0_mult60 (d0 : Dev nD) : BitVec 32 :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_372 : BitVec 32 := 256#32
  let v493 : BitVec 32 := Scalar.muli v32 c256_i32_372
  let v494 : BitVec 32 := Scalar.addi v308 v493
  v494
def k0_mult61 (d0 : Dev nD) : BitVec 32 :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_372 : BitVec 32 := 256#32
  let v493 : BitVec 32 := Scalar.muli v32 c256_i32_372
  let v494 : BitVec 32 := Scalar.addi v308 v493
  v494
def k0_mult62 (d0 : Dev nD) : BitVec 32 :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_372 : BitVec 32 := 256#32
  let v493 : BitVec 32 := Scalar.muli v32 c256_i32_372
  let v494 : BitVec 32 := Scalar.addi v308 v493
  v494
def k0_dev26 (d0 : Dev nD) : Nat :=
  let c0_i32_515 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v51 : BitVec 32 := Scalar.muli c4_i32_20 v29
  let c2_i32_21 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v52 : BitVec 32 := Scalar.muli c2_i32_21 v49
  let v53 : BitVec 32 := Scalar.addi v51 v52
  let c1_i32_19 : BitVec 32 := 1#32
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v50 : BitVec 32 := Scalar.subi c1_i32_19 v32
  let v54 : BitVec 32 := Scalar.xori v50 v49
  let v55 : BitVec 32 := Scalar.addi v53 v54
  let c1_i32_514 : BitVec 32 := 1#32
  let v680 : BitVec 32 := Scalar.muli v55 c1_i32_514
  let v681 : BitVec 32 := Scalar.addi c0_i32_515 v680
  v681.toNat
def k0_mult63 (d0 : Dev nD) : BitVec 32 :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_396 : BitVec 32 := 256#32
  let v523 : BitVec 32 := Scalar.muli v32 c256_i32_396
  let v524 : BitVec 32 := Scalar.addi v341 v523
  v524
def k0_mult64 (d0 : Dev nD) : BitVec 32 :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_396 : BitVec 32 := 256#32
  let v523 : BitVec 32 := Scalar.muli v32 c256_i32_396
  let v524 : BitVec 32 := Scalar.addi v341 v523
  v524
def k0_mult65 (d0 : Dev nD) : BitVec 32 :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_396 : BitVec 32 := 256#32
  let v523 : BitVec 32 := Scalar.muli v32 c256_i32_396
  let v524 : BitVec 32 := Scalar.addi v341 v523
  v524
def k0_mult66 (d0 : Dev nD) : BitVec 32 :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_396 : BitVec 32 := 256#32
  let v523 : BitVec 32 := Scalar.muli v32 c256_i32_396
  let v524 : BitVec 32 := Scalar.addi v341 v523
  v524
def k0_dev27 (d0 : Dev nD) : Nat :=
  let c0_i32_537 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v51 : BitVec 32 := Scalar.muli c4_i32_20 v29
  let c2_i32_21 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v52 : BitVec 32 := Scalar.muli c2_i32_21 v49
  let v53 : BitVec 32 := Scalar.addi v51 v52
  let c1_i32_19 : BitVec 32 := 1#32
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v50 : BitVec 32 := Scalar.subi c1_i32_19 v32
  let v54 : BitVec 32 := Scalar.xori v50 v49
  let v55 : BitVec 32 := Scalar.addi v53 v54
  let c1_i32_536 : BitVec 32 := 1#32
  let v709 : BitVec 32 := Scalar.muli v55 c1_i32_536
  let v710 : BitVec 32 := Scalar.addi c0_i32_537 v709
  v710.toNat
def k0_mult67 (d0 : Dev nD) : BitVec 32 :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_276 : BitVec 32 := 256#32
  let v373 : BitVec 32 := Scalar.muli v49 c256_i32_276
  let v374 : BitVec 32 := Scalar.addi v176 v373
  let c256_i32_551 : BitVec 32 := 256#32
  let v727 : BitVec 32 := Scalar.muli v49 c256_i32_551
  let v728 : BitVec 32 := Scalar.subi v374 v727
  v728
def k0_mult68 (d0 : Dev nD) : BitVec 32 :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_276 : BitVec 32 := 256#32
  let v373 : BitVec 32 := Scalar.muli v49 c256_i32_276
  let v374 : BitVec 32 := Scalar.addi v176 v373
  let c256_i32_551 : BitVec 32 := 256#32
  let v727 : BitVec 32 := Scalar.muli v49 c256_i32_551
  let v728 : BitVec 32 := Scalar.subi v374 v727
  v728
def k0_off31 (d0 : Dev nD) : Fin 2 → Nat :=
  let c0_i32_556 : BitVec 32 := 0#32
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_117 : BitVec 32 := 512#32
  let v175 : BitVec 32 := Scalar.muli v32 c512_i32_117
  let v176 : BitVec 32 := Scalar.addi c0_i32_118 v175
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_276 : BitVec 32 := 256#32
  let v373 : BitVec 32 := Scalar.muli v49 c256_i32_276
  let v374 : BitVec 32 := Scalar.addi v176 v373
  let c256_i32_551 : BitVec 32 := 256#32
  let v727 : BitVec 32 := Scalar.muli v49 c256_i32_551
  let v728 : BitVec 32 := Scalar.subi v374 v727
  let v730 : BitVec 32 := v728
  ![0, v730.toNat]
def k0_dev28 (d0 : Dev nD) : Nat :=
  let c0_i32_555 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v51 : BitVec 32 := Scalar.muli c4_i32_20 v29
  let c2_i32_21 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v52 : BitVec 32 := Scalar.muli c2_i32_21 v49
  let v53 : BitVec 32 := Scalar.addi v51 v52
  let c1_i32_19 : BitVec 32 := 1#32
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v50 : BitVec 32 := Scalar.subi c1_i32_19 v32
  let v54 : BitVec 32 := Scalar.xori v50 v49
  let v55 : BitVec 32 := Scalar.addi v53 v54
  let c1_i32_554 : BitVec 32 := 1#32
  let v731 : BitVec 32 := Scalar.muli v55 c1_i32_554
  let v732 : BitVec 32 := Scalar.addi c0_i32_555 v731
  v732.toNat
def k0_mult69 (d0 : Dev nD) : BitVec 32 :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_300 : BitVec 32 := 256#32
  let v403 : BitVec 32 := Scalar.muli v49 c256_i32_300
  let v404 : BitVec 32 := Scalar.addi v209 v403
  let c256_i32_569 : BitVec 32 := 256#32
  let v749 : BitVec 32 := Scalar.muli v49 c256_i32_569
  let v750 : BitVec 32 := Scalar.subi v404 v749
  v750
def k0_mult70 (d0 : Dev nD) : BitVec 32 :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_300 : BitVec 32 := 256#32
  let v403 : BitVec 32 := Scalar.muli v49 c256_i32_300
  let v404 : BitVec 32 := Scalar.addi v209 v403
  let c256_i32_569 : BitVec 32 := 256#32
  let v749 : BitVec 32 := Scalar.muli v49 c256_i32_569
  let v750 : BitVec 32 := Scalar.subi v404 v749
  v750
def k0_off32 (d0 : Dev nD) : Fin 2 → Nat :=
  let c168_i32_573 : BitVec 32 := 168#32
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c512_i32_144 : BitVec 32 := 512#32
  let v208 : BitVec 32 := Scalar.muli v32 c512_i32_144
  let v209 : BitVec 32 := Scalar.addi c0_i32_145 v208
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c256_i32_300 : BitVec 32 := 256#32
  let v403 : BitVec 32 := Scalar.muli v49 c256_i32_300
  let v404 : BitVec 32 := Scalar.addi v209 v403
  let c256_i32_569 : BitVec 32 := 256#32
  let v749 : BitVec 32 := Scalar.muli v49 c256_i32_569
  let v750 : BitVec 32 := Scalar.subi v404 v749
  let v752 : BitVec 32 := v750
  ![168, v752.toNat]
def k0_dev29 (d0 : Dev nD) : Nat :=
  let c0_i32_572 : BitVec 32 := 0#32
  let c4_i32_20 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v51 : BitVec 32 := Scalar.muli c4_i32_20 v29
  let c2_i32_21 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v52 : BitVec 32 := Scalar.muli c2_i32_21 v49
  let v53 : BitVec 32 := Scalar.addi v51 v52
  let c1_i32_19 : BitVec 32 := 1#32
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v50 : BitVec 32 := Scalar.subi c1_i32_19 v32
  let v54 : BitVec 32 := Scalar.xori v50 v49
  let v55 : BitVec 32 := Scalar.addi v53 v54
  let c1_i32_571 : BitVec 32 := 1#32
  let v753 : BitVec 32 := Scalar.muli v55 c1_i32_571
  let v754 : BitVec 32 := Scalar.addi c0_i32_572 v753
  v754.toNat
def k0_mult71 (d0 : Dev nD) : BitVec 32 :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_324 : BitVec 32 := 256#32
  let v433 : BitVec 32 := Scalar.muli v29 c256_i32_324
  let v434 : BitVec 32 := Scalar.addi v242 v433
  let c256_i32_586 : BitVec 32 := 256#32
  let v771 : BitVec 32 := Scalar.muli v29 c256_i32_586
  let v772 : BitVec 32 := Scalar.subi v434 v771
  v772
def k0_mult72 (d0 : Dev nD) : BitVec 32 :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_324 : BitVec 32 := 256#32
  let v433 : BitVec 32 := Scalar.muli v29 c256_i32_324
  let v434 : BitVec 32 := Scalar.addi v242 v433
  let c256_i32_586 : BitVec 32 := 256#32
  let v771 : BitVec 32 := Scalar.muli v29 c256_i32_586
  let v772 : BitVec 32 := Scalar.subi v434 v771
  v772
def k0_off33 (d0 : Dev nD) : Fin 2 → Nat :=
  let c344_i32_590 : BitVec 32 := 344#32
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_170 : BitVec 32 := 512#32
  let v241 : BitVec 32 := Scalar.muli v49 c512_i32_170
  let v242 : BitVec 32 := Scalar.addi c0_i32_171 v241
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_324 : BitVec 32 := 256#32
  let v433 : BitVec 32 := Scalar.muli v29 c256_i32_324
  let v434 : BitVec 32 := Scalar.addi v242 v433
  let c256_i32_586 : BitVec 32 := 256#32
  let v771 : BitVec 32 := Scalar.muli v29 c256_i32_586
  let v772 : BitVec 32 := Scalar.subi v434 v771
  let v774 : BitVec 32 := v772
  ![344, v774.toNat]
def k0_dev30 (d0 : Dev nD) : Nat :=
  let c0_i32_589 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v57 : BitVec 32 := Scalar.muli c4_i32_23 v29
  let c2_i32_24 : BitVec 32 := 2#32
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v56 : BitVec 32 := Scalar.subi c1_i32_22 v49
  let v58 : BitVec 32 := Scalar.muli c2_i32_24 v56
  let v59 : BitVec 32 := Scalar.addi v57 v58
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v60 : BitVec 32 := Scalar.xori v32 v56
  let v61 : BitVec 32 := Scalar.addi v59 v60
  let c1_i32_588 : BitVec 32 := 1#32
  let v775 : BitVec 32 := Scalar.muli v61 c1_i32_588
  let v776 : BitVec 32 := Scalar.addi c0_i32_589 v775
  v776.toNat
def k0_mult73 (d0 : Dev nD) : BitVec 32 :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_348 : BitVec 32 := 256#32
  let v463 : BitVec 32 := Scalar.muli v29 c256_i32_348
  let v464 : BitVec 32 := Scalar.addi v275 v463
  let c256_i32_603 : BitVec 32 := 256#32
  let v793 : BitVec 32 := Scalar.muli v29 c256_i32_603
  let v794 : BitVec 32 := Scalar.subi v464 v793
  v794
def k0_mult74 (d0 : Dev nD) : BitVec 32 :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_348 : BitVec 32 := 256#32
  let v463 : BitVec 32 := Scalar.muli v29 c256_i32_348
  let v464 : BitVec 32 := Scalar.addi v275 v463
  let c256_i32_603 : BitVec 32 := 256#32
  let v793 : BitVec 32 := Scalar.muli v29 c256_i32_603
  let v794 : BitVec 32 := Scalar.subi v464 v793
  v794
def k0_off34 (d0 : Dev nD) : Fin 2 → Nat :=
  let c512_i32_607 : BitVec 32 := 512#32
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let c512_i32_197 : BitVec 32 := 512#32
  let v274 : BitVec 32 := Scalar.muli v49 c512_i32_197
  let v275 : BitVec 32 := Scalar.addi c0_i32_198 v274
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c256_i32_348 : BitVec 32 := 256#32
  let v463 : BitVec 32 := Scalar.muli v29 c256_i32_348
  let v464 : BitVec 32 := Scalar.addi v275 v463
  let c256_i32_603 : BitVec 32 := 256#32
  let v793 : BitVec 32 := Scalar.muli v29 c256_i32_603
  let v794 : BitVec 32 := Scalar.subi v464 v793
  let v796 : BitVec 32 := v794
  ![512, v796.toNat]
def k0_dev31 (d0 : Dev nD) : Nat :=
  let c0_i32_606 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v57 : BitVec 32 := Scalar.muli c4_i32_23 v29
  let c2_i32_24 : BitVec 32 := 2#32
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v56 : BitVec 32 := Scalar.subi c1_i32_22 v49
  let v58 : BitVec 32 := Scalar.muli c2_i32_24 v56
  let v59 : BitVec 32 := Scalar.addi v57 v58
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v60 : BitVec 32 := Scalar.xori v32 v56
  let v61 : BitVec 32 := Scalar.addi v59 v60
  let c1_i32_605 : BitVec 32 := 1#32
  let v797 : BitVec 32 := Scalar.muli v61 c1_i32_605
  let v798 : BitVec 32 := Scalar.addi c0_i32_606 v797
  v798.toNat
def k0_mult75 (d0 : Dev nD) : BitVec 32 :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_372 : BitVec 32 := 256#32
  let v493 : BitVec 32 := Scalar.muli v32 c256_i32_372
  let v494 : BitVec 32 := Scalar.addi v308 v493
  let c256_i32_620 : BitVec 32 := 256#32
  let v815 : BitVec 32 := Scalar.muli v32 c256_i32_620
  let v816 : BitVec 32 := Scalar.subi v494 v815
  v816
def k0_mult76 (d0 : Dev nD) : BitVec 32 :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_372 : BitVec 32 := 256#32
  let v493 : BitVec 32 := Scalar.muli v32 c256_i32_372
  let v494 : BitVec 32 := Scalar.addi v308 v493
  let c256_i32_620 : BitVec 32 := 256#32
  let v815 : BitVec 32 := Scalar.muli v32 c256_i32_620
  let v816 : BitVec 32 := Scalar.subi v494 v815
  v816
def k0_off35 (d0 : Dev nD) : Fin 2 → Nat :=
  let c688_i32_624 : BitVec 32 := 688#32
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_223 : BitVec 32 := 512#32
  let v307 : BitVec 32 := Scalar.muli v29 c512_i32_223
  let v308 : BitVec 32 := Scalar.addi c0_i32_224 v307
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_372 : BitVec 32 := 256#32
  let v493 : BitVec 32 := Scalar.muli v32 c256_i32_372
  let v494 : BitVec 32 := Scalar.addi v308 v493
  let c256_i32_620 : BitVec 32 := 256#32
  let v815 : BitVec 32 := Scalar.muli v32 c256_i32_620
  let v816 : BitVec 32 := Scalar.subi v494 v815
  let v818 : BitVec 32 := v816
  ![688, v818.toNat]
def k0_dev32 (d0 : Dev nD) : Nat :=
  let c0_i32_623 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v62 : BitVec 32 := Scalar.subi c1_i32_25 v29
  let v63 : BitVec 32 := Scalar.muli c4_i32_26 v62
  let c2_i32_27 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v64 : BitVec 32 := Scalar.muli c2_i32_27 v49
  let v65 : BitVec 32 := Scalar.addi v63 v64
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v66 : BitVec 32 := Scalar.xori v32 v49
  let v67 : BitVec 32 := Scalar.addi v65 v66
  let c1_i32_622 : BitVec 32 := 1#32
  let v819 : BitVec 32 := Scalar.muli v67 c1_i32_622
  let v820 : BitVec 32 := Scalar.addi c0_i32_623 v819
  v820.toNat
def k0_mult77 (d0 : Dev nD) : BitVec 32 :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_396 : BitVec 32 := 256#32
  let v523 : BitVec 32 := Scalar.muli v32 c256_i32_396
  let v524 : BitVec 32 := Scalar.addi v341 v523
  let c256_i32_637 : BitVec 32 := 256#32
  let v837 : BitVec 32 := Scalar.muli v32 c256_i32_637
  let v838 : BitVec 32 := Scalar.subi v524 v837
  v838
def k0_mult78 (d0 : Dev nD) : BitVec 32 :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_396 : BitVec 32 := 256#32
  let v523 : BitVec 32 := Scalar.muli v32 c256_i32_396
  let v524 : BitVec 32 := Scalar.addi v341 v523
  let c256_i32_637 : BitVec 32 := 256#32
  let v837 : BitVec 32 := Scalar.muli v32 c256_i32_637
  let v838 : BitVec 32 := Scalar.subi v524 v837
  v838
def k0_off36 (d0 : Dev nD) : Fin 2 → Nat :=
  let c856_i32_641 : BitVec 32 := 856#32
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c512_i32_250 : BitVec 32 := 512#32
  let v340 : BitVec 32 := Scalar.muli v29 c512_i32_250
  let v341 : BitVec 32 := Scalar.addi c0_i32_251 v340
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let c256_i32_396 : BitVec 32 := 256#32
  let v523 : BitVec 32 := Scalar.muli v32 c256_i32_396
  let v524 : BitVec 32 := Scalar.addi v341 v523
  let c256_i32_637 : BitVec 32 := 256#32
  let v837 : BitVec 32 := Scalar.muli v32 c256_i32_637
  let v838 : BitVec 32 := Scalar.subi v524 v837
  let v840 : BitVec 32 := v838
  ![856, v840.toNat]
def k0_dev33 (d0 : Dev nD) : Nat :=
  let c0_i32_640 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v62 : BitVec 32 := Scalar.subi c1_i32_25 v29
  let v63 : BitVec 32 := Scalar.muli c4_i32_26 v62
  let c2_i32_27 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_13 : BitVec 32 := 0#32
  let v34 : BitVec 1 := Scalar.cmpi .sgt v12 c0_i32_13
  let v35 : BitVec 32 := Scalar.extui v34
  let c0_i32_14 : BitVec 32 := 0#32
  let v36 : BitVec 1 := Scalar.cmpi .slt v12 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v12 c2_i32
  let c0_i32_17 : BitVec 32 := 0#32
  let v46 : BitVec 1 := Scalar.cmpi .ne v45 c0_i32_17
  let v47 : BitVec 1 := Scalar.andi v44 v46
  let v33 : BitVec 32 := Scalar.divsi v12 c2_i32
  let c1_i32_18 : BitVec 32 := 1#32
  let v48 : BitVec 32 := Scalar.subi v33 c1_i32_18
  let v49 : BitVec 32 := Scalar.select v47 v48 v33
  let v64 : BitVec 32 := Scalar.muli c2_i32_27 v49
  let v65 : BitVec 32 := Scalar.addi v63 v64
  let c1_i32_11 : BitVec 32 := 1#32
  let v30 : BitVec 32 := Scalar.shrsi v12 c1_i32_11
  let v31 : BitVec 32 := Scalar.xori v12 v30
  let c1_i32_12 : BitVec 32 := 1#32
  let v32 : BitVec 32 := Scalar.andi v31 c1_i32_12
  let v66 : BitVec 32 := Scalar.xori v32 v49
  let v67 : BitVec 32 := Scalar.addi v65 v66
  let c1_i32_639 : BitVec 32 := 1#32
  let v841 : BitVec 32 := Scalar.muli v67 c1_i32_639
  let v842 : BitVec 32 := Scalar.addi c0_i32_640 v841
  v842.toNat
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdealProtocol.lean ====
/-
The protocol of the kernel: an all-reduce of eight partial products on a mesh of 2 × 2 × 2 devices.

The output's rows are cut into six strips (`chain`), two of each of three bands. Each band runs the same five
exchanges along the three axes of the mesh, in its own order of the axes (`ax`): two halvings (slots 0 and 1: half,
then a quarter, of the strip's columns is given away and the other kept), one exchange of equals (slot 2), and the two
doublings that give the sums back (slots 3 and 4, along the axes of slots 1 and 0).

Semaphores of a device: one barrier (three units, one from each of its three partners) and, for each strip and slot, a
send and a receive semaphore with one transfer each. This module says who pays which of them, how much, and what each
payment hands over, contents included; and what a device owes, so that no wait can be circular.
-/
module
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pointwise.Index
public import Idealize.ShloMosaic.Lib.Memref
public import Idealize.ShloMosaic.Lib.Tactic

@[expose] public section

noncomputable section

namespace AllReduce.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- Device `c`'s coordinate on axis `a`: the four devices of a plane stand on a Gray cycle. -/
def bit (a : Fin 3) (c : Dev nD) : ℕ :=
  match a with
  | 0 => if c.val % 4 = 1 ∨ c.val % 4 = 2 then 1 else 0
  | 1 => c.val % 4 / 2
  | 2 => c.val / 4

set_option backward.proofsInPublic true in
/-- Device `c`'s neighbour on axis `a`. -/
def nb (a : Fin 3) (c : Dev nD) : Dev nD :=
  match a with
  | 0 => ⟨(c.val ^^^ 1) % 8, Nat.mod_lt _ (by decide)⟩
  | 1 => ⟨(c.val ^^^ 3) % 8, Nat.mod_lt _ (by decide)⟩
  | 2 => ⟨(c.val ^^^ 4) % 8, Nat.mod_lt _ (by decide)⟩

theorem nb_nb (a : Fin 3) (c : Dev nD) : nb a (nb a c) = c := by revert a c; decide
theorem nb_comm (a b : Fin 3) (c : Dev nD) : nb a (nb b c) = nb b (nb a c) := by revert a b c; decide
theorem bit_lt (a : Fin 3) (c : Dev nD) : bit a c < 2 := by revert a c; decide
theorem bit_nb (a : Fin 3) (c : Dev nD) : bit a (nb a c) = 1 - bit a c := by revert a c; decide
theorem bit_nb_of_ne (a b : Fin 3) (h : a ≠ b) (c : Dev nD) : bit a (nb b c) = bit a c := by revert a b c; decide

/-- Neighbours on an axis, as a permutation of the devices. -/
def nbE (a : Fin 3) : Dev nD ≃ Dev nD := ⟨nb a, nb a, nb_nb a, nb_nb a⟩

/-- The axis of a band's `s`-th exchange, and the exchange of an axis. -/
def ax (b s : Fin 3) : Fin 3 := b + s
def axInv (b a : Fin 3) : Fin 3 := a - b
theorem axInv_ax (b s : Fin 3) : axInv b (ax b s) = s := by revert b s; decide
theorem ax_axInv (b a : Fin 3) : ax b (axInv b a) = a := by revert b a; decide
theorem ax_ne {s t : Fin 3} (h : s ≠ t) (b : Fin 3) : ax b s ≠ ax b t := by revert s t b; decide
def axE (b : Fin 3) : Fin 3 ≃ Fin 3 := ⟨ax b, axInv b, axInv_ax b, ax_axInv b⟩

/-- Which exchange's axis a slot uses: the doublings go back along the axes of slots 1 and 0. -/
def back : Fin 5 → Fin 3 | 0 => 0 | 1 => 1 | 2 => 2 | 3 => 1 | 4 => 0

/-! ## The six strips -/

/-- A strip of rows of the output: its height, its first row, its band, and the scratch buffer its arrivals land in. -/
structure Chain where
  rl : ℕ
  r0 : ℕ
  band : Fin 3
  hr : r0 + rl ≤ 1024
  hp : 0 < rl
  buf : Memref sig .tc .vmem ⟨2, ![rl, 1024]⟩ .f32
  whole : buf.IsWhole

@[reducible] def chain : Fin 6 → Chain
  | 0 => ⟨168, 0, 0, by decide, by decide, Memref.whole cc0_scratch0, Memref.isWhole_whole _⟩
  | 1 => ⟨176, 168, 0, by decide, by decide, Memref.whole cc0_scratch1, Memref.isWhole_whole _⟩
  | 2 => ⟨168, 344, 1, by decide, by decide, Memref.whole cc0_scratch2, Memref.isWhole_whole _⟩
  | 3 => ⟨176, 512, 1, by decide, by decide, Memref.whole cc0_scratch3, Memref.isWhole_whole _⟩
  | 4 => ⟨168, 688, 2, by decide, by decide, Memref.whole cc0_scratch4, Memref.isWhole_whole _⟩
  | 5 => ⟨168, 856, 2, by decide, by decide, Memref.whole cc0_scratch5, Memref.isWhole_whole _⟩

/-- The neighbour a strip's slot exchanges with. -/
def pr (c : Dev nD) (ci : Fin 6) (k : Fin 5) : Dev nD := nb (ax (chain ci).band (back k)) c
theorem pr_pr (c : Dev nD) (ci : Fin 6) (k : Fin 5) : pr (pr c ci k) ci k = c := nb_nb _ _

/-! ## The memrefs and cells -/

abbrev xM : Memref sig .tc .vmem S1024x128 .f32 := Memref.whole cc0_stg0_0
abbrev wM : Memref sig .tc .vmem S128x1024 .f32 := Memref.whole cc0_stg1_0
abbrev oM : Memref sig .tc .vmem S1024x1024 .f32 := Memref.whole cc0_stg2_0

/-- The columns of a scratch buffer that an exchange's arrivals land in: first and how many. -/
def cc : Fin 3 → ℕ | 0 => 0 | 1 => 512 | 2 => 768
def cw : Fin 3 → ℕ | 0 => 512 | 1 => 256 | 2 => 256

theorem cw_1 : cw 1 = 256 := rfl
theorem cw_2 : cw 2 = 256 := rfl

theorem crect_inb (ci : Fin 6) (s : Fin 3) :
    ∀ a, (![0, cc s] : Fin 2 → ℕ) a + (![(chain ci).rl, cw s] : Fin 2 → ℕ) a ≤ (⟨2, ![(chain ci).rl, 1024]⟩ : Shape).size a :=
  Rect.inb₂ (by simp) (show cc s + cw s ≤ 1024 by revert s; decide)

def crect (ci : Fin 6) (s : Fin 3) : Rect ⟨2, ![(chain ci).rl, 1024]⟩ :=
  Rect.unit (s := ⟨2, ![(chain ci).rl, 1024]⟩) ![0, cc s] ![(chain ci).rl, cw s] (crect_inb ci s)

/-- Where the arrivals of strip `ci`'s exchange `s` land. -/
abbrev cM (ci : Fin 6) (s : Fin 3) : Memref sig .tc .vmem ⟨2, ![(chain ci).rl, cw s]⟩ .f32 :=
  (chain ci).buf.slice (crect ci s) (fun _ => rfl)

abbrev barS : Sem sig := (SemArray.scalar (sig.barrier 0 rfl) : Sems sig S_).sem
/-- The semaphores of strip `ci`'s slot `k`: the sender's (`d = 0`) and the receiver's (`d = 1`). -/
def xS (d : Fin 2) (ci : Fin 6) (k : Fin 5) : DmaSem sig :=
  ⟨3 + 30 * d.val + 5 * ci.val + k.val, by have := d.2; have := ci.2; have := k.2; show _ < 63; omega⟩

abbrev barCell (c : Dev nD) : GSem nD τ sig := ((c : Thread nD τ), .reg barS)
abbrev sCell (c : Dev nD) (ci : Fin 6) (k : Fin 5) : GSem nD τ sig := ((c : Thread nD τ), .dma (xS 0 ci k))
abbrev rCell (c : Dev nD) (ci : Fin 6) (k : Fin 5) : GSem nD τ sig := ((c : Thread nD τ), .dma (xS 1 ci k))

/-- A transfer's name: direction, strip, slot; the kernel's own semaphores, and with the barrier all of them. -/
abbrev TI : Type := Fin 2 × Fin 6 × Fin 5
abbrev osem : TI → SemLoc sig := fun t => .dma (xS t.1 t.2.1 t.2.2)
abbrev csem : Option TI → SemLoc sig := fun o => match o with | none => .reg barS | some t => osem t
abbrev kcell (ck : Dev nD × Option TI) : GSem nD τ sig := ((ck.1 : Thread nD τ), csem ck.2)

/-- A DMA semaphore's direction, strip and slot, back from its number. -/
def dOf (q : DmaSem sig) : Fin 2 := if q.val < 33 then 0 else 1
def ciOf (q : DmaSem sig) : Fin 6 := ⟨(q.val - 3) % 30 / 5, by omega⟩
def kOf (q : DmaSem sig) : Fin 5 := ⟨(q.val - 3) % 5, by omega⟩
theorem dOf_xS (d ci k) : dOf (xS d ci k) = d := by
  have h0 := d.2; have h1 := ci.2; have h2 := k.2
  unfold dOf xS; split <;> (apply Fin.ext; simp only [Fin.val_zero, Fin.val_one] at *; omega)
theorem ciOf_xS (d ci k) : ciOf (xS d ci k) = ci := by
  have h0 := d.2; have h1 := ci.2; have h2 := k.2
  unfold ciOf xS; apply Fin.ext; simp only; omega
theorem kOf_xS (d ci k) : kOf (xS d ci k) = k := by
  have h0 := d.2; have h1 := ci.2; have h2 := k.2
  unfold kOf xS; apply Fin.ext; simp only; omega
theorem three_le_xS (d ci k) : 3 ≤ (xS d ci k).val := by unfold xS; simp only; omega
theorem osem_inj : Function.Injective osem := fun t t' h => by
  have h : xS t.1 t.2.1 t.2.2 = xS t'.1 t'.2.1 t'.2.2 := by injection h
  have h0 := congrArg dOf h; have h1 := congrArg ciOf h; have h2 := congrArg kOf h
  rw [dOf_xS, dOf_xS] at h0; rw [ciOf_xS, ciOf_xS] at h1; rw [kOf_xS, kOf_xS] at h2
  exact Prod.ext h0 (Prod.ext h1 h2)

/-- How many columns a slot's transfer moves, and what it credits. -/
def wk : Fin 5 → ℕ | 0 => 512 | 1 => 256 | 2 => 256 | 3 => 256 | 4 => 512
def cr (ci : Fin 6) (k : Fin 5) : ℕ := RefSig.tileCredit ⟨2, ![(chain ci).rl, wk k]⟩ .f32
theorem cr_pos (ci : Fin 6) (k : Fin 5) : 0 < cr ci k :=
  RefSig.tileCredit_pos _ _ (by
    refine Nat.pos_of_ne_zero (Finset.prod_ne_zero_iff.mpr fun a _ => Nat.ne_of_gt ?_)
    match a with
    | ⟨0, _⟩ => exact (chain ci).hp
    | ⟨1, _⟩ => exact (show ∀ k, 0 < wk k by decide) k)

/-! ## The output's regions -/

/-- Contents of the output buffer. -/
abbrev OutC (F : FTy → Type) : Type := S1024x1024.Idx → Elt F .f32

/-- Rows `r .. r + h`, columns `c .. c + w` of the output. -/
def reg (r h c w : ℕ) : Finset S1024x1024.Idx :=
  Finset.univ.filter fun i => (r ≤ (i 0).val ∧ (i 0).val < r + h) ∧ c ≤ (i 1).val ∧ (i 1).val < c + w

theorem mem_reg {r h c w : ℕ} {i : S1024x1024.Idx} :
    i ∈ reg r h c w ↔ (r ≤ (i 0).val ∧ (i 0).val < r + h) ∧ c ≤ (i 1).val ∧ (i 1).val < c + w := by
  unfold reg; rw [Finset.mem_filter]; simp only [Finset.mem_univ, true_and]

theorem reg_eq_set {r h c w : ℕ} {inb} : (Rect.unit (s := S1024x1024) ![r, c] ![h, w] inb).set = reg r h c w := by
  ext i
  rw [Rect.mem_set_unit, mem_reg, Fin.forall_fin_two]
  exact Iff.rfl

/-- Device `c`'s output buffer on a set of its elements, holding `f` there. -/
def oPt (c : Dev nD) (S : Finset S1024x1024.Idx) (f : OutC F) : sProp 𝕄 :=
  ((c : Thread nD τ).loc cc0_stg2_0) ↦[S]{fullShare} f

omit [FloatOps F] in
instance oPt_storable (c : Dev nD) (S) (f : OutC F) : BI.Storable (upEmb : UEmb _ 𝕄) (oPt c S f) := by unfold oPt; infer_instance

/-- A function on the output, read on a rectangle from row `r` and column `c`. -/
def win (f : OutC F) (r c : ℕ) (h w : ℕ) (hr : r + h ≤ 1024) (hc : c + w ≤ 1024) : (⟨2, ![h, w]⟩ : Shape).Idx → Elt F .f32 :=
  fun j => f (ix2 ⟨r + (j 0).val, by have : (j 0).val < h := (j 0).2; omega⟩ ⟨c + (j 1).val, by have : (j 1).val < w := (j 1).2; omega⟩)

/-! ## Contents -/

/-- The operands as the kernel's buffers hold them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Rows `r .. r + h` of a device's first operand. -/
def xrow (c : Dev nD) (r h : ℕ) (hr : r + h ≤ 1024) : Vec F ⟨2, ![h, 128]⟩ .f32 :=
  fun j => xstg m ρ c (ix2 ⟨r + (j 0).val, by have : (j 0).val < h := (j 0).2; omega⟩ ⟨(j 1).val, (j 1).2⟩)

/-- A device's partial product: the three bands' products, each as the kernel computes it. -/
def part (c : Dev nD) : OutC F := fun i =>
  if h0 : (i 0).val < 344 then k0_pay1 (xrow m ρ c 0 344 (by decide)) (wstg m ρ c) (ix2 ⟨(i 0).val, h0⟩ (i 1))
  else if h1 : (i 0).val < 688 then
    k0_pay2 (xrow m ρ c 344 344 (by decide)) (wstg m ρ c) (ix2 ⟨(i 0).val - 344, by omega⟩ (i 1))
  else k0_pay3 (xrow m ρ c 688 336 (by decide)) (wstg m ρ c) (ix2 ⟨(i 0).val - 688, by have : (i 0).val < 1024 := (i 0).2; omega⟩ (i 1))

/-- Two functions on the output, added element by element. -/
def add (f g : OutC F) : OutC F := fun i => FloatOps.addf (F := F) (φ := .f32) (f i) (g i)

/-- What a device holds after each of a band's three adds, where it holds anything: its own and its neighbour's. -/
def val (b : Fin 3) : ℕ → Dev nD → OutC F
  | 0, c => part m ρ c
  | n + 1, c => add (val b n c) (val b n (nb (ax b (if n = 0 then 0 else if n = 1 then 1 else 2)) c))

/-- After the first doubling: in the columns of its own quarter a device's own sum, in the others' its neighbour's. -/
def half (b : Fin 3) (c : Dev nD) : OutC F := fun i =>
  if (i 1).val / 256 % 2 = bit (ax b 1) c then val m ρ b 3 c i else val m ρ b 3 (nb (ax b 1) c) i

/-- After the second: in the columns of its own half a device's own, in the others' its neighbour's. -/
def full (b : Fin 3) (c : Dev nD) : OutC F := fun i =>
  if (i 1).val / 512 = bit (ax b 0) c then half m ρ b c i else half m ρ b (nb (ax b 0) c) i

/-- The first column of the half, and of the quarter, that device `c` keeps in band `b`. -/
def hcol (b : Fin 3) (c : Dev nD) : ℕ := bit (ax b 0) c * 512
def qcol (b : Fin 3) (c : Dev nD) : ℕ := bit (ax b 0) c * 512 + bit (ax b 1) c * 256
theorem hcol_le (b : Fin 3) (c : Dev nD) : hcol b c + 512 ≤ 1024 := by have := bit_lt (ax b 0) c; unfold hcol; omega
theorem qcol_le (b : Fin 3) (c : Dev nD) : qcol b c + 256 ≤ 1024 := by
  have := bit_lt (ax b 0) c; have := bit_lt (ax b 1) c; unfold qcol; omega

/-! ## The schedule -/

/-- A landing region, holding anything. -/
def cAny (c : Dev nD) (ci : Fin 6) (s : Fin 3) : sProp 𝕄 := iprop(∃ X, owns (c : Thread nD τ) (cM ci s) fullShare X)

/-- What a neighbour's barrier signal on axis `a` hands over: the regions of its scratch buffers that this device's
    transfers on that axis land in. -/
def barPay (c : Dev nD) (a : Fin 3) : sProp 𝕄 := bigSep Finset.univ fun ci : Fin 6 => cAny (nb a c) ci (axInv (chain ci).band a)

/-- A strip of device `c`'s output: its kept half, or its kept quarter. -/
def hPt (c : Dev nD) (ci : Fin 6) (f : OutC F) : sProp 𝕄 := oPt c (reg (chain ci).r0 (chain ci).rl (hcol (chain ci).band c) 512) f
def qPt (c : Dev nD) (ci : Fin 6) (f : OutC F) : sProp 𝕄 := oPt c (reg (chain ci).r0 (chain ci).rl (qcol (chain ci).band c) 256) f

/-- An arrival from `p` of the columns of `c`'s half, or quarter. -/
def hIn (c : Dev nD) (ci : Fin 6) (f : OutC F) : sProp 𝕄 :=
  owns (c : Thread nD τ) (cM ci 0) fullShare (win f (chain ci).r0 (hcol (chain ci).band c) (chain ci).rl (cw 0) (chain ci).hr (hcol_le _ _))
def qIn (c : Dev nD) (ci : Fin 6) (s : Fin 3) (h : cw s = 256) (f : OutC F) : sProp 𝕄 :=
  owns (c : Thread nD τ) (cM ci s) fullShare
    (win f (chain ci).r0 (qcol (chain ci).band c) (chain ci).rl (cw s) (chain ci).hr (by rw [h]; exact qcol_le _ _))

omit [FloatOps F] in
instance hIn_storable (c : Dev nD) (ci) (f : OutC F) : BI.Storable (upEmb : UEmb _ 𝕄) (hIn c ci f) := by unfold hIn; infer_instance
omit [FloatOps F] in
instance qIn_storable (c : Dev nD) (ci s h) (f : OutC F) : BI.Storable (upEmb : UEmb _ 𝕄) (qIn c ci s h f) := by unfold qIn; infer_instance

/-- What a transfer's arrival hands device `c`: in slots 0 and 1 the arrived columns, and with them the columns of the
    sender's output they came from (the sender gives them away; the doublings write the sums back there); in slot 2 the
    arrived columns; in slots 3 and 4 the sums, in its output. -/
def recvPay (c : Dev nD) (ci : Fin 6) : Fin 5 → sProp 𝕄
  | 0 => iprop(hIn c ci (part m ρ (pr c ci 0))
      ∗ oPt (pr c ci 0) (reg (chain ci).r0 (chain ci).rl (hcol (chain ci).band c) 512) (part m ρ (pr c ci 0)))
  | 1 => iprop(qIn c ci 1 cw_1 (val m ρ (chain ci).band 1 (pr c ci 1))
      ∗ oPt (pr c ci 1) (reg (chain ci).r0 (chain ci).rl (qcol (chain ci).band c) 256) (val m ρ (chain ci).band 1 (pr c ci 1)))
  | 2 => qIn c ci 2 cw_2 (val m ρ (chain ci).band 2 (pr c ci 2))
  | 3 => oPt c (reg (chain ci).r0 (chain ci).rl (qcol (chain ci).band (pr c ci 3)) 256) (val m ρ (chain ci).band 3 (pr c ci 3))
  | 4 => oPt c (reg (chain ci).r0 (chain ci).rl (hcol (chain ci).band (pr c ci 4)) 512) (half m ρ (chain ci).band (pr c ci 4))

/-- What a transfer's departure hands back to its sender: in slots 0 and 1 nothing, then the columns sent. -/
def sendPay (c : Dev nD) (ci : Fin 6) : Fin 5 → sProp 𝕄
  | 0 => iprop(emp)
  | 1 => iprop(emp)
  | 2 => qPt c ci (val m ρ (chain ci).band 2 c)
  | 3 => qPt c ci (val m ρ (chain ci).band 3 c)
  | 4 => hPt c ci (half m ρ (chain ci).band c)

def semDuties : SemLoc sig → Finset (Fin 3)
  | .reg _ => Finset.univ
  | .dma q => if 3 ≤ q.val then {0} else ∅
def semAmount : SemLoc sig → ℕ
  | .reg _ => 1
  | .dma q => cr (ciOf q) (kOf q)
def semPay (c : Dev nD) : SemLoc sig → Fin 3 → sProp 𝕄
  | .reg _, a => barPay c a
  | .dma q, _ => if dOf q = 0 then sendPay m ρ c (ciOf q) (kOf q) else recvPay m ρ c (ciOf q) (kOf q)

/-- One round. A barrier has a duty of one unit for each axis; a transfer's semaphore one duty, of the transfer's credit. -/
def sched : Rounds.Schedule (GSem nD τ sig) (Fin 3) 𝕄 where
  duties g r := if r = 0 ∧ g.1.2 = .tc then semDuties g.2 else ∅
  unitless _ := False
  amount g _ _ := semAmount g.2
  payload g _ d := semPay m ρ g.1.1 g.2 d
  amount_pos g _ _ _ := by
    rcases g with ⟨_, _ | q⟩
    · exact Nat.one_pos
    · exact cr_pos _ _

instance sched_payload_storable (g : GSem nD τ sig) (r : ℕ) (d : Fin 3) :
    BI.Storable (upEmb : UEmb _ 𝕄) ((sched (F := F) m ρ).payload g r d) := by
  show BI.Storable upEmb (semPay m ρ g.1.1 g.2 d)
  rcases g with ⟨⟨c, _⟩, _ | q⟩
  · show BI.Storable upEmb (barPay c d)
    unfold barPay cAny; infer_instance
  · show BI.Storable upEmb (if dOf q = 0 then sendPay m ρ c (ciOf q) (kOf q) else recvPay m ρ c (ciOf q) (kOf q))
    generalize ciOf q = ci; generalize kOf q = k
    split
    · match k with
      | 0 | 1 => exact inferInstanceAs (BI.Storable upEmb iprop(emp))
      | 2 | 3 => exact inferInstanceAs (BI.Storable upEmb (oPt _ _ _))
      | 4 => exact inferInstanceAs (BI.Storable upEmb (oPt _ _ _))
    · match k with
      | 0 => show BI.Storable upEmb iprop(hIn _ _ _ ∗ oPt _ _ _); infer_instance
      | 1 => show BI.Storable upEmb iprop(qIn _ _ _ _ _ ∗ oPt _ _ _); infer_instance
      | 2 => show BI.Storable upEmb (qIn _ _ 2 cw_2 _); infer_instance
      | 3 | 4 => show BI.Storable upEmb (oPt _ _ _); infer_instance

section Sched
variable (c : Dev nD) (ci : Fin 6) (k : Fin 5)

theorem duties_bar : (sched (F := F) m ρ).duties (barCell c) 0 = Finset.univ := by dsimp only [sched]; exact if_pos ⟨rfl, rfl⟩
theorem duties_x (d : Fin 2) : (sched (F := F) m ρ).duties ((c : Thread nD τ), .dma (xS d ci k)) 0 = {0} := by
  dsimp only [sched]; rw [if_pos ⟨rfl, rfl⟩]; exact if_pos (three_le_xS d ci k)
theorem duties_later (g : GSem nD τ sig) : ∀ r, 1 ≤ r → (sched (F := F) m ρ).duties g r = ∅ :=
  fun r hr => by dsimp only [sched]; rw [if_neg fun h => by omega]

theorem amount_bar (a : Fin 3) : (sched (F := F) m ρ).amount (barCell c) 0 a = 1 := rfl
theorem amount_x (d : Fin 2) (a : Fin 3) : (sched (F := F) m ρ).amount ((c : Thread nD τ), .dma (xS d ci k)) 0 a = cr ci k := by
  show cr (ciOf (xS d ci k)) (kOf (xS d ci k)) = cr ci k
  rw [ciOf_xS, kOf_xS]

theorem expect_bar : (sched (F := F) m ρ).expect (barCell c) 0 = 3 := by
  unfold Schedule.expect Schedule.amountOf
  rw [duties_bar, Finset.sum_congr rfl fun a _ => amount_bar m ρ c a, Finset.sum_const, Finset.card_univ, Fintype.card_fin, smul_eq_mul]
theorem expect_x (d : Fin 2) : (sched (F := F) m ρ).expect ((c : Thread nD τ), .dma (xS d ci k)) 0 = cr ci k := by
  unfold Schedule.expect Schedule.amountOf; rw [duties_x, Finset.sum_singleton, amount_x]

theorem payload_bar (a : Fin 3) : (sched (F := F) m ρ).payload (barCell c) 0 a = barPay c a := rfl
theorem payload_send (a : Fin 3) : (sched (F := F) m ρ).payload (sCell c ci k) 0 a = sendPay m ρ c ci k := by
  show (if dOf (xS 0 ci k) = 0 then sendPay m ρ c (ciOf (xS 0 ci k)) (kOf (xS 0 ci k)) else _) = _
  rw [if_pos (dOf_xS 0 ci k), ciOf_xS, kOf_xS]
theorem payload_recv (a : Fin 3) : (sched (F := F) m ρ).payload (rCell c ci k) 0 a = recvPay m ρ c ci k := by
  show (if dOf (xS 1 ci k) = 0 then _ else recvPay m ρ c (ciOf (xS 1 ci k)) (kOf (xS 1 ci k))) = _
  rw [if_neg (by rw [dOf_xS]; decide), ciOf_xS, kOf_xS]

theorem rest_bar : bigSep ((sched (F := F) m ρ).duties (barCell c) 0 \ ∅) (fun a => (sched (F := F) m ρ).payload (barCell c) 0 a)
    = bigSep Finset.univ fun a => barPay c a := by
  rw [Finset.sdiff_empty, duties_bar]; exact bigSep_congr fun a _ => payload_bar m ρ c a
theorem rest_send : bigSep ((sched (F := F) m ρ).duties (sCell c ci k) 0 \ ∅) (fun a => (sched (F := F) m ρ).payload (sCell c ci k) 0 a)
    = sendPay m ρ c ci k := by
  rw [Finset.sdiff_empty, duties_x, bigSep_singleton, payload_send]
theorem rest_recv : bigSep ((sched (F := F) m ρ).duties (rCell c ci k) 0 \ ∅) (fun a => (sched (F := F) m ρ).payload (rCell c ci k) 0 a)
    = recvPay m ρ c ci k := by
  rw [Finset.sdiff_empty, duties_x, bigSep_singleton, payload_recv]

end Sched

/-! ## What a device owes, and the levels -/

/-- The transfers, in the order a device makes them: slot by slot, strip by strip. -/
def sends : List (Fin 6 × Fin 5) :=
  [(0, 0), (1, 0), (2, 0), (3, 0), (4, 0), (5, 0), (0, 1), (1, 1), (2, 1), (3, 1), (4, 1), (5, 1),
   (0, 2), (1, 2), (2, 2), (3, 2), (4, 2), (5, 2), (0, 3), (1, 3), (2, 3), (3, 3), (4, 3), (5, 3),
   (0, 4), (1, 4), (2, 4), (3, 4), (4, 4), (5, 4)]

/-- What device `c` owes with the transfers of `l` still to make: each one's credit, to its receiver's semaphore. -/
def owedL (c : Dev nD) : List (Fin 6 × Fin 5) → CellTallies nD τ sig Unit
  | [] => 0
  | p :: l => owedL c l + tallyAt (rCell (pr c p.1 p.2) p.1 p.2) () (cr p.1 p.2)

/-- At launch it also owes each neighbour's barrier a unit, axis 0's first. -/
def O₂ (c : Dev nD) : CellTallies nD τ sig Unit := owedL c sends + tallyAt (barCell (nb 2 c)) () 1
def O₁ (c : Dev nD) : CellTallies nD τ sig Unit := O₂ c + tallyAt (barCell (nb 1 c)) () 1
def O₀ (c : Dev nD) : CellTallies nD τ sig Unit := O₁ c + tallyAt (barCell (nb 0 c)) () 1

def L (g : GSem nD τ sig) : Finset Unit := if g.1.2 = .tc then {()} else ∅
/-- Staging and send semaphores at 0, the barrier at 1, slot `k`'s receive semaphores at `2 + k`. -/
def semLv : SemLoc sig → ℕ
  | .reg _ => 1
  | .dma q => if q.val < 33 then 0 else 2 + (kOf q).val
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem semLv_r (ci : Fin 6) (k : Fin 5) : semLv (.dma (xS 1 ci k)) = 2 + k.val := by
  show (if (xS 1 ci k).val < 33 then 0 else 2 + (kOf (xS 1 ci k)).val) = _
  rw [kOf_xS, if_neg (by unfold xS; simp only [Fin.val_one]; omega)]
theorem semLv_s (ci : Fin 6) (k : Fin 5) : semLv (.dma (xS 0 ci k)) = 0 := by
  have h1 := ci.2; have h2 := k.2
  exact if_pos (by unfold xS; simp only [Fin.val_zero]; omega)

theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem owedL_pos {c : Dev nD} {g : GSem nD τ sig} {u : Unit} : ∀ {l : List (Fin 6 × Fin 5)}, 0 < owedL c l g u →
    ∃ p ∈ l, g = rCell (pr c p.1 p.2) p.1 p.2
  | [], h => absurd h (Nat.lt_irrefl 0)
  | p :: l, h => by
    rw [owedL, Pi.add_apply, Finsupp.add_apply] at h
    rcases Nat.add_pos_iff_pos_or_pos.mp h with h' | h'
    · obtain ⟨q, hq, e⟩ := owedL_pos h'; exact ⟨q, List.mem_cons_of_mem _ hq, e⟩
    · exact ⟨p, List.mem_cons_self, tallyAt_pos h'⟩

theorem O₀_pos {c : Dev nD} {g : GSem nD τ sig} {u : Unit} (h : 0 < O₀ c g u) :
    (∃ p ∈ sends, g = rCell (pr c p.1 p.2) p.1 p.2) ∨ ∃ a, g = barCell (nb a c) := by
  unfold O₀ O₁ O₂ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (owedL_pos h)
      · exact .inr ⟨2, tallyAt_pos h⟩
    · exact .inr ⟨1, tallyAt_pos h⟩
  · exact .inr ⟨0, tallyAt_pos h⟩

/-- A wait at level `n` may be made while everything owed lies above `n`. -/
theorem mayWait_of (c : Dev nD) (sm : SemLoc sig) (O : CellTallies nD τ sig Unit) (h : ∀ g u, 0 < O g u → g.1.2 = .tc ∧ semLv sm < semLv g.2) :
    (levAts L lv : sProp 𝕄) ⊢ MayWait (c : Thread nD τ) sm () O :=
  MayOwe.of_cut (L := L) (lev := lv) (semLv sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

/-- A staging semaphore's wait, owing everything. -/
theorem mayWait_stage (c : Dev nD) (q : DmaSem sig) (hq : q.val < 3) : (levAts L lv : sProp 𝕄) ⊢ MayWait (c : Thread nD τ) (.dma q) () (O₀ c) :=
  mayWait_of c _ _ fun g u hg => by
    have e : semLv (.dma q) = 0 := if_pos (by omega)
    rw [e]
    rcases O₀_pos hg with ⟨p, -, rfl⟩ | ⟨a, rfl⟩
    · exact ⟨rfl, by rw [semLv_r]; omega⟩
    · exact ⟨rfl, Nat.one_pos⟩

/-- The barrier's wait, owing every transfer. -/
theorem mayWait_bar (c : Dev nD) : (levAts L lv : sProp 𝕄) ⊢ MayWait (c : Thread nD τ) (.reg barS) () (owedL c sends) :=
  mayWait_of c _ _ fun g u hg => by
    obtain ⟨p, -, rfl⟩ := owedL_pos hg
    exact ⟨rfl, by rw [semLv_r]; exact Nat.lt_of_lt_of_le Nat.one_lt_two (Nat.le_add_right _ _)⟩

theorem mayWait_send (c : Dev nD) (ci : Fin 6) (k : Fin 5) (l : List (Fin 6 × Fin 5)) :
    (levAts L lv : sProp 𝕄) ⊢ MayWait (c : Thread nD τ) (.dma (xS 0 ci k)) () (owedL c l) :=
  mayWait_of c _ _ fun g u hg => by
    obtain ⟨p, -, rfl⟩ := owedL_pos hg
    exact ⟨rfl, by rw [semLv_s, semLv_r]; omega⟩

/-- A slot's receive wait, owing only later slots' transfers. -/
theorem mayWait_recv (c : Dev nD) (ci : Fin 6) (k : Fin 5) (l : List (Fin 6 × Fin 5)) (h : ∀ p ∈ l, k < p.2) :
    (levAts L lv : sProp 𝕄) ⊢ MayWait (c : Thread nD τ) (.dma (xS 1 ci k)) () (owedL c l) :=
  mayWait_of c _ _ fun g u hg => by
    obtain ⟨p, hp, rfl⟩ := owedL_pos hg
    have := h p hp
    exact ⟨rfl, by rw [semLv_r, semLv_r]; omega⟩

end AllReduce.KernelIdeal
-- ==== Proof.KernelIdealSteps.lean ====
/-
The exchange of one strip, step by step: for each slot, the wait for its transfer, the add of what arrived, and the
next slot's transfer, proved once for every strip and every device. A step is stated on the operations it runs, with
the offsets and device numbers they name as arguments, and the proof of the whole body applies it strip by strip.
-/
module
public import proofs.«01_k».proof.Proof.KernelIdealProtocol

@[expose] public section

noncomputable section

namespace AllReduce.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Regions of the output -/

omit [FloatOps F] in
theorem oPt_union (c : Dev nD) {S T U : Finset S1024x1024.Idx} (hU : U = S ∪ T) (hd : Disjoint S T) (f : OutC F) :
    oPt c U f = iprop(oPt c S f ∗ oPt c T f) := by
  subst hU; unfold oPt
  have h := pointsTo_union (Ix := Unit) (Name := ℕ) (U := UU) (Lvl := ℕ) (ℓ := (c : Thread nD τ).loc cc0_stg2_0) (I := S) (J := T)
    (q := fullShare) (f := f) hd
  exact BI.equiv_iff.mp ⟨h.1, h.2⟩

omit [FloatOps F] in
theorem oPt_congr (c : Dev nD) {S : Finset S1024x1024.Idx} {f g : OutC F} (h : ∀ i ∈ S, f i = g i) : oPt c S f = oPt c S g := by
  unfold oPt; exact pointsTo_congr h

/-- The strip's rows, all columns. -/
def strip (c : Dev nD) (ci : Fin 6) (f : OutC F) : sProp 𝕄 := oPt c (reg (chain ci).r0 (chain ci).rl 0 1024) f

omit [FloatOps F] in
/-- A strip is the half its device keeps and the half the neighbour keeps; -/
theorem strip_eq (c : Dev nD) (ci : Fin 6) (f : OutC F) :
    strip c ci f = iprop(hPt c ci f ∗ oPt c (reg (chain ci).r0 (chain ci).rl (hcol (chain ci).band (pr c ci 0)) 512) f) := by
  have e : bit (ax (chain ci).band 0) (pr c ci 0) = 1 - bit (ax (chain ci).band 0) c := bit_nb _ _
  have hb := bit_lt (ax (chain ci).band 0) c
  unfold strip hPt
  refine oPt_union c ?_ ?_ f
  · ext i
    have hi : (i 1).val < 1024 := (i 1).2
    rw [Finset.mem_union, mem_reg, mem_reg, mem_reg]; unfold hcol; rw [e]; omega
  · rw [Finset.disjoint_left]; intro i h h'
    rw [mem_reg] at h h'; unfold hcol at h h'; rw [e] at h'; omega

omit [FloatOps F] in
/-- a half, the quarter its device keeps and the quarter the next neighbour keeps. -/
theorem half_eq (c : Dev nD) (ci : Fin 6) (f : OutC F) :
    hPt c ci f = iprop(qPt c ci f ∗ oPt c (reg (chain ci).r0 (chain ci).rl (qcol (chain ci).band (pr c ci 1)) 256) f) := by
  have e : bit (ax (chain ci).band 1) (pr c ci 1) = 1 - bit (ax (chain ci).band 1) c := bit_nb _ _
  have e' : bit (ax (chain ci).band 0) (pr c ci 1) = bit (ax (chain ci).band 0) c := bit_nb_of_ne _ _ (ax_ne (by decide) _) _
  have hb := bit_lt (ax (chain ci).band 0) c
  have hb' := bit_lt (ax (chain ci).band 1) c
  unfold qPt hPt
  refine oPt_union c ?_ ?_ f
  · ext i
    rw [Finset.mem_union, mem_reg, mem_reg, mem_reg]; unfold hcol qcol; rw [e, e']; omega
  · rw [Finset.disjoint_left]; intro i h h'
    rw [mem_reg] at h h'; unfold qcol at h h'; rw [e, e'] at h'; omega

/-- What slot 3 brings back, beside what the device had: the half after the first doubling. -/
theorem half_join (c : Dev nD) (ci : Fin 6) :
    iprop(qPt c ci (val m ρ (chain ci).band 3 c)
        ∗ oPt c (reg (chain ci).r0 (chain ci).rl (qcol (chain ci).band (pr c ci 3)) 256) (val m ρ (chain ci).band 3 (pr c ci 3)))
      = hPt c ci (half m ρ (chain ci).band c) := by
  have e : bit (ax (chain ci).band 1) (pr c ci 3) = 1 - bit (ax (chain ci).band 1) c := bit_nb _ _
  have hb := bit_lt (ax (chain ci).band 0) c
  have hb1 := bit_lt (ax (chain ci).band 1) c
  have hb2 := bit_lt (ax (chain ci).band 0) (pr c ci 3)
  rw [half_eq]
  unfold qPt
  congr 1
  · refine oPt_congr c fun i hi => ?_
    rw [mem_reg] at hi; unfold qcol at hi; unfold half
    rw [if_pos (by omega)]
  · refine oPt_congr c fun i hi => ?_
    rw [mem_reg] at hi; unfold qcol at hi; rw [e] at hi; unfold half
    rw [if_neg (by omega)]; rfl

/-- What slot 4 brings back, beside what the device had: the whole strip. -/
theorem full_join (c : Dev nD) (ci : Fin 6) :
    iprop(hPt c ci (half m ρ (chain ci).band c)
        ∗ oPt c (reg (chain ci).r0 (chain ci).rl (hcol (chain ci).band (pr c ci 4)) 512) (half m ρ (chain ci).band (pr c ci 4)))
      = strip c ci (full m ρ (chain ci).band c) := by
  have e : bit (ax (chain ci).band 0) (pr c ci 4) = 1 - bit (ax (chain ci).band 0) c := bit_nb _ _
  have hb := bit_lt (ax (chain ci).band 0) c
  rw [strip_eq]
  unfold hPt
  congr 1
  · refine oPt_congr c fun i hi => ?_
    rw [mem_reg] at hi; unfold hcol at hi; unfold full
    rw [if_pos (by omega)]
  · refine oPt_congr c fun i hi => ?_
    rw [mem_reg] at hi; unfold hcol at hi; rw [e] at hi; unfold full
    rw [if_neg (by omega)]; rfl

/-! ## Slices of the output -/

/-- The output's slice at `off`. -/
abbrev oS (off : Fin 2 → ℕ) (h w : ℕ) (inb : ∀ a, off a + (![h, w] : Fin 2 → ℕ) a ≤ S1024x1024.size a) : Memref sig .tc .vmem ⟨2, ![h, w]⟩ .f32 :=
  (oM : Memref sig .tc .vmem S1024x1024 .f32).slice (Rect.unit (s := S1024x1024) off ![h, w] inb) (fun _ => rfl)

omit [FloatOps F] in
theorem oS_pt (c : Dev nD) {r cl h w : ℕ} {inb} (f : OutC F) :
    (((oS ![r, cl] h w inb).view.loc (c : Thread nD τ) ↦[(oS ![r, cl] h w inb).view.set]{fullShare} f) : sProp 𝕄) = oPt c (reg r h cl w) f := by
  have e : (oS ![r, cl] h w inb).view.set = reg r h cl w := (View.set_slice_whole _ _).trans reg_eq_set
  unfold oPt; rw [← e]

omit [FloatOps F] in
/-- The same, the width under two names. -/
theorem oS_in (c : Dev nD) {r cl h w w' : ℕ} {inb} (hw : w = w') (f : OutC F) :
    oPt c (reg r h cl w') f ⊢ (((oS ![r, cl] h w inb).view.loc (c : Thread nD τ) ↦[(oS ![r, cl] h w inb).view.set]{fullShare} f) : sProp 𝕄) := by
  subst hw; exact Entails.of_eq (oS_pt c f).symm

omit [FloatOps F] in
theorem oS_out (c : Dev nD) {r cl h w w' : ℕ} {inb} (hw : w = w') (f : OutC F) :
    (((oS ![r, cl] h w inb).view.loc (c : Thread nD τ) ↦[(oS ![r, cl] h w inb).view.set]{fullShare} f) : sProp 𝕄) ⊢ oPt c (reg r h cl w') f := by
  subst hw; exact Entails.of_eq (oS_pt c f)

omit [FloatOps F] in
theorem win_congr (f : OutC F) {r h w cl cl' : ℕ} (e : cl = cl') (hr : r + h ≤ 1024) (hc : cl + w ≤ 1024) (hc' : cl' + w ≤ 1024) :
    win f r cl h w hr hc = win f r cl' h w hr hc' := by subst e; rfl

omit [FloatOps F] in
theorem emb_eq {r cl h w : ℕ} {inb} (hr : r + h ≤ 1024) (hc : cl + w ≤ 1024) (j : (⟨2, ![h, w]⟩ : Shape).Idx) :
    (Rect.unit (s := S1024x1024) ![r, cl] ![h, w] inb).emb j
      = ix2 ⟨r + (j 0).val, by have : (j 0).val < h := (j 0).2; omega⟩ ⟨cl + (j 1).val, by have : (j 1).val < w := (j 1).2; omega⟩ := by
  funext a
  apply Fin.ext
  rw [Rect.emb_apply]
  match a with
  | ⟨0, _⟩ => show r + 1 * (j 0).val = r + (j 0).val; omega
  | ⟨1, _⟩ => show cl + 1 * (j 1).val = cl + (j 1).val; omega

omit [FloatOps F] in
theorem oS_read {r cl h w : ℕ} {inb} (hr : r + h ≤ 1024) (hc : cl + w ≤ 1024) (f : OutC F) :
    (oS ![r, cl] h w inb).view.read (Elt F) f = win f r cl h w hr hc := by
  funext j
  show f ((Rect.unit (s := S1024x1024) ![r, cl] ![h, w] inb).emb j) = _
  rw [emb_eq hr hc]; rfl

omit [FloatOps F] in
/-- A write through a slice, of what a function holds there, leaves that function there. -/
theorem oS_write (c : Dev nD) {r cl h w : ℕ} {inb} (hr : r + h ≤ 1024) (hc : cl + w ≤ 1024) (f g : OutC F)
    (v : (⟨2, ![h, w]⟩ : Shape).Idx → Elt F .f32) (hv : v = win g r cl h w hr hc) :
    oPt c (reg r h cl w) ((oS ![r, cl] h w inb).view.write (Elt F) f v Finset.univ) = oPt c (reg r h cl w) g := by
  subst hv
  refine oPt_congr c fun i hi => ?_
  rw [← reg_eq_set (inb := inb), ← Rect.map_emb_univ, Finset.mem_map] at hi
  obtain ⟨j, -, rfl⟩ := hi
  show (oS ![r, cl] h w inb).view.write (Elt F) f _ Finset.univ ((oS ![r, cl] h w inb).view.emb j) = _
  rw [View.write_emb_of_mem _ _ (Finset.mem_univ j), emb_eq hr hc]
  rfl

/-! ## What is at hand -/

def records (K : Dev nD × Option TI → ℕ) : sProp 𝕄 :=
  iprop((bigSep Finset.univ fun ck : Dev nD × Option TI => cellInv ER (sched m ρ) (K ck) (kcell ck))
    ∗ bigSep Finset.univ fun ck : Dev nD × Option TI => reached ER (kcell ck) 0)

instance records_persistent (K : Dev nD × Option TI → ℕ) : BI.Persistent (records m ρ K) := by unfold records; infer_instance

theorem inv_at (K : Dev nD × Option TI → ℕ) (ck : Dev nD × Option TI) : records m ρ K ⊢ cellInv ER (sched m ρ) (K ck) (kcell ck) := by
  have h : (bigSep Finset.univ fun ck : Dev nD × Option TI => (cellInv ER (sched m ρ) (K ck) (kcell ck) : sProp 𝕄))
    ⊢ cellInv ER (sched m ρ) (K ck) (kcell ck) := bigSep_elim (Finset.mem_univ ck)
  unfold records; iintro ⟨H, -⟩; iapply h; iexact H
theorem reached_at (K : Dev nD × Option TI → ℕ) (ck : Dev nD × Option TI) : records m ρ K ⊢ reached ER (kcell ck) 0 := by
  have h : (bigSep Finset.univ fun ck : Dev nD × Option TI => (reached ER (kcell ck) 0 : sProp 𝕄)) ⊢ reached ER (kcell ck) 0 :=
    bigSep_elim (Finset.mem_univ ck)
  unfold records; iintro ⟨-, H⟩; iapply h; iexact H

/-- The records of the cells and the levels: kept throughout. -/
def amb (K : Dev nD × Option TI → ℕ) : sProp 𝕄 := iprop(records m ρ K ∗ levAts L lv)
instance amb_persistent (K : Dev nD × Option TI → ℕ) : BI.Persistent (amb m ρ K) := by unfold amb; infer_instance

/-- What device `c` owes, whatever it has waited for. -/
def ow (c : Dev nD) (l : List (Fin 6 × Fin 5)) : sProp 𝕄 := iprop(∃ W, owes (c : Thread nD τ) (owedL c l) W)

/-- A slot not yet begun: the two duty tokens its transfer pays with, its two positions, and the credit of its arrival; -/
def tk (c : Dev nD) (ci : Fin 6) (k : Fin 5) : sProp 𝕄 :=
  iprop(dutyTok ER (sCell c ci k) 0 0 ∗ dutyTok ER (rCell (pr c ci k) ci k) 0 0
    ∗ atPos ER (sCell c ci k) 0 ∅ 0 ∗ atPos ER (rCell c ci k) 0 ∅ 0 ∗ cred (tallyAt (rCell c ci k) () (cr ci k)))
/-- its transfer under way; -/
def fl (c : Dev nD) (ci : Fin 6) (k : Fin 5) : sProp 𝕄 :=
  iprop(cred (tallyAt (sCell c ci k) () (cr ci k)) ∗ atPos ER (sCell c ci k) 0 ∅ 0 ∗ atPos ER (rCell c ci k) 0 ∅ 0
    ∗ cred (tallyAt (rCell c ci k) () (cr ci k)))
/-- done: both counters at zero. -/
def dn (c : Dev nD) (ci : Fin 6) (k : Fin 5) : sProp 𝕄 := iprop(semVal (sCell c ci k) 0 ∗ semVal (rCell c ci k) 0)

variable (K : Dev nD × Option TI → ℕ) (c : Dev nD) (ci : Fin 6)

/-! ## The operations -/

section Ops

/-- A transfer whose source comes back to the sender when it has left. -/
theorem send_keep (k : Fin 5) (l : List (Fin 6 × Fin 5)) {src : Memref sig .tc .vmem ⟨2, ![(chain ci).rl, wk k]⟩ .f32} {n : Dev nD} (hn : n = pr c ci k)
    {dst : Memref sig .tc .vmem ⟨2, ![(chain ci).rl, wk k]⟩ .f32}
    {hsc : (show Memref sig (Dev.tc n : Thread nD τ).2.kind .vmem _ .f32 from dst).view.ref.isScScratch = false}
    {hsrc : src.view.WordExact} {hdst : dst.view.WordExact} {sS sR : SemLoc sig} (hS : sS = .dma (xS 0 ci k)) (hR : sR = .dma (xS 1 ci k))
    {hsem : DmaTarget.Typed .vmem sR (.remote (Dev.tc n : Thread nD τ) dst sS hsc)}
    (fs : Buf (Elt F) (src.view.loc (c : Thread nD τ))) (fd : Buf (Elt F) (dst.view.loc (pr c ci k : Thread nD τ)))
    (hp₁ : (src.view.loc (c : Thread nD τ) ↦[src.view.set]{fullShare} fs : sProp 𝕄) ⊢ sendPay m ρ c ci k)
    (hp₂ : (dst.view.loc (pr c ci k : Thread nD τ) ↦[dst.view.set]{fullShare} (dst.view.write (Elt F) fd (src.view.read (Elt F) fs) Finset.univ) : sProp 𝕄)
      ⊢ recvPay m ρ (pr c ci k) ci k)
    {α : Type} {Q : α → sProp 𝕄} {k' : PUnit → Prog (TpuEff nD τ sig (Elt F) Λ₀ .tc) α} :
    iprop(amb m ρ K ∗ (src.view.loc (c : Thread nD τ) ↦[src.view.set]{fullShare} fs)
        ∗ (dst.view.loc (pr c ci k : Thread nD τ) ↦[dst.view.set]{fullShare} fd) ∗ ow c ((ci, k) :: l) ∗ tk c ci k)
      ⊢ iprop(((fl c ci k ∗ ow c l) -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma src (.remote (Dev.tc n : Thread nD τ) dst sS hsc) sR hsrc hdst hsem) k') Q) := by
  subst hn hS hR
  unfold amb ow tk fl
  iintro ⟨⟨#HR, -⟩, Hs, Hd, ⟨%W, Ho⟩, Ht₁, Ht₂, Ha₁, Ha₂, Hc⟩ Hk
  iapply (Rounds.wp_send_pointsTo 𝒱₀ ER (sched m ρ) (c : Thread nD τ) none (κ₁ := K (c, some (0, ci, k))) (κ₂ := K (pr c ci k, some (1, ci, k)))
    (r₁ := 0) (r₂ := 0) (d₁ := 0) (d₂ := 0) (fd := fd)
    (by rw [duties_x]; exact Finset.mem_singleton_self _) (by rw [duties_x]; exact Finset.mem_singleton_self _)
    () () (cr ci k) rfl (amount_x m ρ c ci k 0 0) (amount_x m ρ (pr c ci k) ci k 1 0) (owedL c l) rfl (W := W)
    (by rw [payload_send]; exact hp₁) (by rw [payload_recv]; exact hp₂)) $$ [Hs Hd Ho Ht₁ Ht₂]
  · isplitr; · iapply (inv_at m ρ K (c, some (0, ci, k))); iexact HR
    isplitr; · iapply (inv_at m ρ K (pr c ci k, some (1, ci, k))); iexact HR
    isplitl [Hs]; · iexact Hs
    isplitl [Hd]; · iexact Hd
    isplitl [Ho]; · iexact Ho
    isplitl [Ht₁]; · iexact Ht₁
    isplitr; · iapply (reached_at m ρ K (c, some (0, ci, k))); iexact HR
    isplitl [Ht₂]; · iexact Ht₂
    iapply (reached_at m ρ K (pr c ci k, some (1, ci, k))); iexact HR
  iintro ⟨Hc', Ho⟩
  iapply Hk
  isplitr [Ho]
  · isplitl [Hc']; · iexact Hc'
    isplitl [Ha₁]; · iexact Ha₁
    isplitl [Ha₂]; · iexact Ha₂
    iexact Hc
  iexists W; iexact Ho

/-- A transfer whose source goes to the receiver with what arrives. -/
theorem send_give (k : Fin 5) (l : List (Fin 6 × Fin 5)) {src : Memref sig .tc .vmem ⟨2, ![(chain ci).rl, wk k]⟩ .f32} {n : Dev nD} (hn : n = pr c ci k)
    {dst : Memref sig .tc .vmem ⟨2, ![(chain ci).rl, wk k]⟩ .f32}
    {hsc : (show Memref sig (Dev.tc n : Thread nD τ).2.kind .vmem _ .f32 from dst).view.ref.isScScratch = false}
    {hsrc : src.view.WordExact} {hdst : dst.view.WordExact} {sS sR : SemLoc sig} (hS : sS = .dma (xS 0 ci k)) (hR : sR = .dma (xS 1 ci k))
    {hsem : DmaTarget.Typed .vmem sR (.remote (Dev.tc n : Thread nD τ) dst sS hsc)}
    (fs : Buf (Elt F) (src.view.loc (c : Thread nD τ))) (fd : Buf (Elt F) (dst.view.loc (pr c ci k : Thread nD τ)))
    (hp₁ : (emp : sProp 𝕄) ⊢ sendPay m ρ c ci k)
    (hp₂ : iprop((dst.view.loc (pr c ci k : Thread nD τ) ↦[dst.view.set]{fullShare} (dst.view.write (Elt F) fd (src.view.read (Elt F) fs) Finset.univ))
        ∗ (src.view.loc (c : Thread nD τ) ↦[src.view.set]{fullShare} fs) : sProp 𝕄)
      ⊢ recvPay m ρ (pr c ci k) ci k)
    {α : Type} {Q : α → sProp 𝕄} {k' : PUnit → Prog (TpuEff nD τ sig (Elt F) Λ₀ .tc) α} :
    iprop(amb m ρ K ∗ (src.view.loc (c : Thread nD τ) ↦[src.view.set]{fullShare} fs)
        ∗ (dst.view.loc (pr c ci k : Thread nD τ) ↦[dst.view.set]{fullShare} fd) ∗ ow c ((ci, k) :: l) ∗ tk c ci k)
      ⊢ iprop(((fl c ci k ∗ ow c l) -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma src (.remote (Dev.tc n : Thread nD τ) dst sS hsc) sR hsrc hdst hsem) k') Q) := by
  subst hn hS hR
  unfold amb ow tk fl
  iintro ⟨⟨#HR, -⟩, Hs, Hd, ⟨%W, Ho⟩, Ht₁, Ht₂, Ha₁, Ha₂, Hc⟩ Hk
  iapply (Rounds.wp_send_landing_pointsTo 𝒱₀ ER (sched m ρ) (c : Thread nD τ) none (κ₁ := K (c, some (0, ci, k))) (κ₂ := K (pr c ci k, some (1, ci, k)))
    (r₁ := 0) (r₂ := 0) (d₁ := 0) (d₂ := 0) (fd := fd)
    (by rw [duties_x]; exact Finset.mem_singleton_self _) (by rw [duties_x]; exact Finset.mem_singleton_self _)
    () () (cr ci k) rfl (amount_x m ρ c ci k 0 0) (amount_x m ρ (pr c ci k) ci k 1 0) (owedL c l) rfl (W := W)
    (by rw [payload_send]; exact hp₁) (by rw [payload_recv]; exact hp₂)) $$ [Hs Hd Ho Ht₁ Ht₂]
  · isplitr; · iapply (inv_at m ρ K (c, some (0, ci, k))); iexact HR
    isplitr; · iapply (inv_at m ρ K (pr c ci k, some (1, ci, k))); iexact HR
    isplitl [Hs]; · iexact Hs
    isplitl [Hd]; · iexact Hd
    isplitl [Ho]; · iexact Ho
    isplitl [Ht₁]; · iexact Ht₁
    isplitr; · iapply (reached_at m ρ K (c, some (0, ci, k))); iexact HR
    isplitl [Ht₂]; · iexact Ht₂
    iapply (reached_at m ρ K (pr c ci k, some (1, ci, k))); iexact HR
  iintro ⟨Hc', Ho⟩
  iapply Hk
  isplitr [Ho]
  · isplitl [Hc']; · iexact Hc'
    isplitl [Ha₁]; · iexact Ha₁
    isplitl [Ha₂]; · iexact Ha₂
    iexact Hc
  iexists W; iexact Ho

/-- A slot's two waits: what the sender gets back and what the receiver gets, and both cells closed. -/
theorem wait_both (k : Fin 5) (l : List (Fin 6 × Fin 5)) (hl : ∀ p ∈ l, k < p.2)
    {a b a' b' : Memref sig .tc .vmem ⟨2, ![(chain ci).rl, wk k]⟩ .f32}
    {h₁ : a.view.WordExact} {h₂ : b.view.WordExact} {h₁' : a'.view.WordExact} {h₂' : b'.view.WordExact}
    {sS sR : DmaSem sig} (hS : sS = xS 0 ci k) (hR : sR = xS 1 ci k) {S R : sProp 𝕄} (hs : sendPay m ρ c ci k ⊢ S) (hp : recvPay m ρ c ci k ⊢ R)
    {α : Type} {Q : α → sProp 𝕄} {k' : PUnit → Prog (TpuEff nD τ sig (Elt F) Λ₀ .tc) α} :
    iprop(amb m ρ K ∗ fl c ci k ∗ ow c l)
      ⊢ iprop(((dn c ci k ∗ S ∗ R ∗ ow c l)
            -∗ wp frame (wpE (defs₀ (F := F)) 𝒱₀ (c : Thread nD τ) none) Set.univ (k' ⟨⟩) Q)
        -∗ wp frame (wpE (defs₀ (F := F)) 𝒱₀ (c : Thread nD τ) none) Set.univ
            (.op (.waitDma2 sS a b h₁ h₂) fun _ => .op (.waitDma2 sR a' b' h₁' h₂') k') Q) := by
  subst hS hR
  unfold amb ow fl dn
  iintro ⟨⟨#HR, #Hlev⟩, ⟨Hc₁, Ha₁, Ha₂, Hc₂⟩, ⟨%W, Ho⟩⟩ Hk
  iapply (Rounds.wp_wait_rest_token 𝒱₀ ER (sched m ρ) (c : Thread nD τ) none (κ := K (c, some (0, ci, k)))
      (wpE_waitDma2_eq 𝒱₀ (c : Thread nD τ) none Set.univ) (Set.mem_univ _) () (O := owedL c l) (W := W) (R := 0) (m := 0) (T := ∅)
      (by rw [Nat.zero_add, expect_x]; rfl)) $$ [Hc₁ Ho Ha₁]
  · isplitr; · iapply (inv_at m ρ K (c, some (0, ci, k))); iexact HR
    isplitl [Hc₁]; · iexact Hc₁
    isplitl [Ho]; · iexact Ho
    isplitr; · iapply (mayWait_send c ci k l); iexact Hlev
    iexact Ha₁
  iintro ⟨Ho, Ha₁, -, Hp₁⟩
  ihave Hp₁ := ((Entails.of_eq (rest_send m ρ c ci k)).trans hs) $$ Hp₁
  iapply (Rounds.wp_wait_rest_token 𝒱₀ ER (sched m ρ) (c : Thread nD τ) none (κ := K (c, some (1, ci, k)))
      (wpE_waitDma2_eq 𝒱₀ (c : Thread nD τ) none Set.univ) (Set.mem_univ _) () (O := owedL c l)
      (W := insert (SemLoc.dma (xS 0 ci k), ()) W) (R := 0) (m := 0) (T := ∅)
      (by rw [Nat.zero_add, expect_x]; rfl)) $$ [Hc₂ Ho Ha₂]
  · isplitr; · iapply (inv_at m ρ K (c, some (1, ci, k))); iexact HR
    isplitl [Hc₂]; · iexact Hc₂
    isplitl [Ho]; · iexact Ho
    isplitr; · iapply (mayWait_recv c ci k l hl); iexact Hlev
    iexact Ha₂
  iintro ⟨Ho, Ha₂, -, Hp₂⟩
  ihave Hp₂ := ((Entails.of_eq (rest_recv m ρ c ci k)).trans hp) $$ Hp₂
  imod (Rounds.cell_close ER (sched m ρ) (Set.mem_univ (K (c, some (0, ci, k)))) (fun h => h) (R := 0 + 1) (duties_later m ρ (sCell c ci k))) $$ [Ha₁] with Hz₁
  · isplitr; · iapply (inv_at m ρ K (c, some (0, ci, k))); iexact HR
    iexact Ha₁
  imod (Rounds.cell_close ER (sched m ρ) (Set.mem_univ (K (c, some (1, ci, k)))) (fun h => h) (R := 0 + 1) (duties_later m ρ (rCell c ci k))) $$ [Ha₂] with Hz₂
  · isplitr; · iapply (inv_at m ρ K (c, some (1, ci, k))); iexact HR
    iexact Ha₂
  iapply Hk
  isplitl [Hz₁ Hz₂]
  · isplitl [Hz₁] <;> iassumption
  isplitl [Hp₁]; · iexact Hp₁
  isplitl [Hp₂]; · iexact Hp₂
  iexists _; iexact Ho

omit [FloatOps F] in
/-- A landing region's points-to, as a transfer names the region and as a load does. -/
theorem cM_pt (s : Fin 3) (f : Buf (Elt F) ((cM ci s).view.loc (c : Thread nD τ))) :
    ((cM ci s).view.loc (c : Thread nD τ) ↦[(cM ci s).view.set]{fullShare} f : sProp 𝕄)
      = (((chain ci).buf.access (crect ci s)).loc (c : Thread nD τ) ↦[((chain ci).buf.access (crect ci s)).set]{fullShare} f) := rfl

/-- The add: a region of the output becomes itself plus the arrived columns. -/
theorem add_at (s : Fin 3) {cl : ℕ} (hc : cl + cw s ≤ 1024) (f g : OutC F) {off : Fin 2 → ℕ} (hoff : off = ![(chain ci).r0, cl])
    {inb : ∀ a, off a + (![(chain ci).rl, cw s] : Fin 2 → ℕ) a ≤ S1024x1024.size a}
    {pay : Vec F ⟨2, ![(chain ci).rl, cw s]⟩ .f32 → Vec F ⟨2, ![(chain ci).rl, cw s]⟩ .f32 → FVec F ⟨2, ![(chain ci).rl, cw s]⟩ .f32}
    (hpay : ∀ v w, pay v w = addf v w)
    {hl₁ hl₃ : (oM : Memref sig .tc .vmem S1024x1024 .f32).view.LoadsAt (Rect.unit (s := S1024x1024) off ![(chain ci).rl, cw s] inb).toLoadRect}
    {hl₂ : (chain ci).buf.view.LoadsAt (crect ci s).toLoadRect}
    {hx : ((oM : Memref sig .tc .vmem S1024x1024 .f32).access (Rect.unit (s := S1024x1024) off ![(chain ci).rl, cw s] inb)).Stores Finset.univ}
    {hm : (Finset.univ : Finset (Rect.unit (s := S1024x1024) off ![(chain ci).rl, cw s] inb).shape.Idx) = Finset.univ
      ∨ ∀ a, (Rect.unit (s := S1024x1024) off ![(chain ci).rl, cw s] inb).stride a = 1}
    {α : Type} {Q : α → sProp 𝕄} {k' : PUnit → Prog (TpuEff nD τ sig (Elt F) Λ₀ .tc) α} :
    iprop(oPt c (reg (chain ci).r0 (chain ci).rl cl (cw s)) f
        ∗ owns (c : Thread nD τ) (cM ci s) fullShare (win g (chain ci).r0 cl (chain ci).rl (cw s) (chain ci).hr hc))
      ⊢ iprop(((oPt c (reg (chain ci).r0 (chain ci).rl cl (cw s)) (add f g) ∗ cAny c ci s)
            -∗ wp frame (wpE (defs₀ (F := F)) 𝒱₀ (c : Thread nD τ) none) Set.univ (k' ⟨⟩) Q)
        -∗ wp frame (wpE (defs₀ (F := F)) 𝒱₀ (c : Thread nD τ) none) Set.univ
            (.op (.load oM (Rect.unit (s := S1024x1024) off ![(chain ci).rl, cw s] inb).toLoadRect hl₁) fun v =>
              .op (.load (chain ci).buf (crect ci s).toLoadRect hl₂) fun w =>
              .op (.load oM (Rect.unit (s := S1024x1024) off ![(chain ci).rl, cw s] inb).toLoadRect hl₃) fun _ =>
              .op (.store oM (Rect.unit (s := S1024x1024) off ![(chain ci).rl, cw s] inb) (pay v w) Finset.univ hx hm) k') Q) := by
  subst hoff
  unfold cAny owns
  iintro ⟨Ho, ⟨%fc, %hfc, Hc⟩⟩ Hk
  ihave Ho := (Entails.of_eq (oS_pt c (inb := inb) f).symm) $$ Ho
  iapply (wp_load_rect 𝒱₀ (c : Thread nD τ) none Set.univ (m := oM) (Finset.Subset.refl _)) $$ Ho; iintro Ho
  ihave Hc := (Entails.of_eq (cM_pt c ci s fc)) $$ Hc
  iapply (wp_load_rect 𝒱₀ (c : Thread nD τ) none Set.univ (m := (chain ci).buf) (r := crect ci s) (Finset.Subset.refl _)) $$ Hc; iintro Hc
  iapply (wp_load_rect 𝒱₀ (c : Thread nD τ) none Set.univ (m := oM) (Finset.Subset.refl _)) $$ Ho; iintro Ho
  iapply (wp_store 𝒱₀ (c : Thread nD τ) none Set.univ (m := oM) (r := Rect.unit (s := S1024x1024) ![(chain ci).r0, cl] ![(chain ci).rl, cw s] inb)
      (Mk := Finset.univ) (S := (oS ![(chain ci).r0, cl] (chain ci).rl (cw s) inb).view.set) (Finset.Subset.refl _)) $$ Ho; iintro Ho
  iapply Hk
  isplitl [Ho]
  · iapply (Entails.of_eq (oS_write c (inb := inb) (chain ci).hr hc f (add f g)
      (pay ((oS ![(chain ci).r0, cl] (chain ci).rl (cw s) inb).view.read (Elt F) f) ((cM ci s).view.read (Elt F) fc)) (by
      rw [hpay]
      show addf ((oS ![(chain ci).r0, cl] (chain ci).rl (cw s) inb).view.read (Elt F) f) ((cM ci s).view.read (Elt F) fc) = _
      rw [hfc, oS_read (chain ci).hr hc]; rfl)))
    iapply (Entails.of_eq (oS_pt c (inb := inb) _))
    iexact Ho
  iexists _; iexists fc
  isplitr; · ipureintro; rfl
  iapply (Entails.of_eq (cM_pt c ci s fc).symm); iexact Hc

/-! ## The slots -/

omit [FloatOps F] in
/-- A landing region's elements. -/
theorem cAny_mem (d : Dev nD) (s : Fin 3) :
    cAny d ci s ⊢ (iprop(∃ fd : Buf (Elt F) ((cM ci s).view.loc (d : Thread nD τ)),
      ((cM ci s).view.loc (d : Thread nD τ) ↦[(cM ci s).view.set]{fullShare} fd)) : sProp 𝕄) := by
  unfold cAny owns
  iintro ⟨%X, %fd, -, H⟩; iexists fd; iexact H

/-- What lands in a landing region is what was sent. -/
theorem landed (d : Dev nD) (s : Fin 3) (fd : Buf (Elt F) ((cM ci s).view.loc (d : Thread nD τ))) (X : (⟨2, ![(chain ci).rl, cw s]⟩ : Shape).Idx → Elt F .f32) :
    ((cM ci s).view.loc (d : Thread nD τ) ↦[(cM ci s).view.set]{fullShare} ((cM ci s).view.write (Elt F) fd X Finset.univ) : sProp 𝕄)
      ⊢ owns (d : Thread nD τ) (cM ci s) fullShare X := by
  unfold owns
  iintro H; iexists ((cM ci s).view.write (Elt F) fd X Finset.univ); isplitr [H]
  · ipureintro; exact View.read_write_univ _ _
  iexact H

/-- What lands in a slice of the output is what was sent. -/
theorem landed_out (d : Dev nD) {r cl h w : ℕ} {inb} (hr : r + h ≤ 1024) (hc : cl + w ≤ 1024) (f g fd : OutC F) (hfg : f = g) :
    ((oS ![r, cl] h w inb).view.loc (d : Thread nD τ) ↦[(oS ![r, cl] h w inb).view.set]{fullShare}
        ((oS ![r, cl] h w inb).view.write (Elt F) fd ((oS ![r, cl] h w inb).view.read (Elt F) f) Finset.univ) : sProp 𝕄)
      ⊢ oPt d (reg r h cl w) g := by
  subst hfg
  exact Entails.of_eq ((oS_pt d _).trans (oS_write d hr hc fd f _ (oS_read hr hc f)))

/-- The pieces of a strip's state: before slot 0, and after each slot's transfer has been sent. -/
def P0 : sProp 𝕄 := iprop(strip c ci (part m ρ c) ∗ cAny (pr c ci 0) ci 0 ∗ cAny (pr c ci 1) ci 1 ∗ cAny (pr c ci 2) ci 2
  ∗ tk c ci 0 ∗ tk c ci 1 ∗ tk c ci 2 ∗ tk c ci 3 ∗ tk c ci 4)
def P1 : sProp 𝕄 := iprop(hPt c ci (part m ρ c) ∗ cAny (pr c ci 1) ci 1 ∗ cAny (pr c ci 2) ci 2
  ∗ fl c ci 0 ∗ tk c ci 1 ∗ tk c ci 2 ∗ tk c ci 3 ∗ tk c ci 4)
def P2 : sProp 𝕄 := iprop(qPt c ci (val m ρ (chain ci).band 1 c) ∗ cAny (pr c ci 2) ci 2 ∗ cAny c ci 0
  ∗ oPt (pr c ci 4) (reg (chain ci).r0 (chain ci).rl (hcol (chain ci).band c) 512) (part m ρ (pr c ci 4))
  ∗ dn c ci 0 ∗ fl c ci 1 ∗ tk c ci 2 ∗ tk c ci 3 ∗ tk c ci 4)
def P3 : sProp 𝕄 := iprop(cAny c ci 0 ∗ cAny c ci 1
  ∗ oPt (pr c ci 4) (reg (chain ci).r0 (chain ci).rl (hcol (chain ci).band c) 512) (part m ρ (pr c ci 4))
  ∗ oPt (pr c ci 3) (reg (chain ci).r0 (chain ci).rl (qcol (chain ci).band c) 256) (val m ρ (chain ci).band 1 (pr c ci 3))
  ∗ dn c ci 0 ∗ dn c ci 1 ∗ fl c ci 2 ∗ tk c ci 3 ∗ tk c ci 4)
def P4 : sProp 𝕄 := iprop(cAny c ci 0 ∗ cAny c ci 1 ∗ cAny c ci 2
  ∗ oPt (pr c ci 4) (reg (chain ci).r0 (chain ci).rl (hcol (chain ci).band c) 512) (part m ρ (pr c ci 4))
  ∗ dn c ci 0 ∗ dn c ci 1 ∗ dn c ci 2 ∗ fl c ci 3 ∗ tk c ci 4)
def P5 : sProp 𝕄 := iprop(cAny c ci 0 ∗ cAny c ci 1 ∗ cAny c ci 2 ∗ dn c ci 0 ∗ dn c ci 1 ∗ dn c ci 2 ∗ dn c ci 3 ∗ fl c ci 4)
def P6 : sProp 𝕄 := iprop(strip c ci (full m ρ (chain ci).band c) ∗ (cAny c ci 0 ∗ cAny c ci 1 ∗ cAny c ci 2)
  ∗ (dn c ci 0 ∗ dn c ci 1 ∗ dn c ci 2 ∗ dn c ci 3 ∗ dn c ci 4))

section Slots

/-- Slot 0: the half the neighbour keeps, sent to it. -/
theorem step0 (l : List (Fin 6 × Fin 5)) {off : Fin 2 → ℕ} (hoff : off = ![(chain ci).r0, hcol (chain ci).band (pr c ci 0)])
    {inb : ∀ a, off a + (![(chain ci).rl, wk 0] : Fin 2 → ℕ) a ≤ S1024x1024.size a} {n : Dev nD} (hn : n = pr c ci 0)
    {hsc : (show Memref sig (Dev.tc n : Thread nD τ).2.kind .vmem _ .f32 from cM ci 0).view.ref.isScScratch = false}
    {hsrc : (oS off (chain ci).rl (wk 0) inb).view.WordExact} {hdst : (cM ci 0).view.WordExact}
    {sS sR : SemLoc sig} (hS : sS = .dma (xS 0 ci 0)) (hR : sR = .dma (xS 1 ci 0))
    {hsem : DmaTarget.Typed .vmem sR (.remote (Dev.tc n : Thread nD τ) (cM ci 0) sS hsc)}
    {α : Type} {Q : α → sProp 𝕄} {k' : PUnit → Prog (TpuEff nD τ sig (Elt F) Λ₀ .tc) α} :
    iprop(amb m ρ K ∗ P0 m ρ c ci ∗ ow c ((ci, 0) :: l))
      ⊢ iprop(((P1 m ρ c ci ∗ ow c l) -∗ wp frame (wpE (defs₀ (F := F)) 𝒱₀ (c : Thread nD τ) none) Set.univ (k' ⟨⟩) Q)
        -∗ wp frame (wpE (defs₀ (F := F)) 𝒱₀ (c : Thread nD τ) none) Set.univ (.op (.enqueueDma (oS off (chain ci).rl (wk 0) inb) (.remote (Dev.tc n : Thread nD τ) (cM ci 0) sS hsc) sR hsrc hdst hsem) k') Q) := by
  subst hoff
  unfold P0 P1
  rw [strip_eq]
  iintro ⟨#HA, ⟨⟨Hh, Hs⟩, Hc0, Hc1, Hc2, Ht0, Ht1, Ht2, Ht3, Ht4⟩, Ho⟩ Hk
  ihave Hc0 := (cAny_mem ci (pr c ci 0) 0) $$ Hc0
  icases Hc0 with ⟨%fd, Hc0⟩
  ihave Hs := (oS_in c (inb := inb) (show wk 0 = 512 from rfl) (part m ρ c)) $$ Hs
  iapply (send_give m ρ K c ci 0 l hn hS hR (part m ρ c) fd (Entails.refl _) (by
    show iprop(_ ∗ _) ⊢ iprop(hIn (pr c ci 0) ci (part m ρ (pr (pr c ci 0) ci 0))
      ∗ oPt (pr (pr c ci 0) ci 0) (reg (chain ci).r0 (chain ci).rl (hcol (chain ci).band (pr c ci 0)) 512) (part m ρ (pr (pr c ci 0) ci 0)))
    rw [pr_pr]
    refine Idealize.SL.BI.sep_mono ((landed ci (pr c ci 0) 0 fd _).trans (Entails.of_eq ?_)) (Entails.of_eq (oS_pt c (inb := inb) (part m ρ c)))
    unfold hIn; congr 1; exact oS_read (chain ci).hr (hcol_le _ _) _)) $$ [Hs Hc0 Ho Ht0]
  · isplitr; · iexact HA
    isplitl [Hs]; · iexact Hs
    isplitl [Hc0]; · iexact Hc0
    isplitl [Ho]; · iexact Ho
    iexact Ht0
  iintro ⟨Hf, Ho⟩
  iapply Hk
  isplitr [Ho]
  · isplitl [Hh]; · iexact Hh
    isplitl [Hc1]; · iexact Hc1
    isplitl [Hc2]; · iexact Hc2
    isplitl [Hf]; · iexact Hf
    isplitl [Ht1]; · iexact Ht1
    isplitl [Ht2]; · iexact Ht2
    isplitl [Ht3]; · iexact Ht3
    iexact Ht4
  iexact Ho

/-- A slot's waits and the add of what arrived. -/
theorem wait_add (k : Fin 5) (s : Fin 3) (l : List (Fin 6 × Fin 5)) (hl : ∀ p ∈ l, k < p.2)
    {a b a' b' : Memref sig .tc .vmem ⟨2, ![(chain ci).rl, wk k]⟩ .f32}
    {h₁ : a.view.WordExact} {h₂ : b.view.WordExact} {h₁' : a'.view.WordExact} {h₂' : b'.view.WordExact}
    {sS sR : DmaSem sig} (hS : sS = xS 0 ci k) (hR : sR = xS 1 ci k)
    {cl : ℕ} (hc : cl + cw s ≤ 1024) (f g : OutC F) {A B R : sProp 𝕄}
    (hA : iprop(A ∗ sendPay m ρ c ci k) ⊢ oPt c (reg (chain ci).r0 (chain ci).rl cl (cw s)) f)
    (hB : oPt c (reg (chain ci).r0 (chain ci).rl cl (cw s)) (add f g) ⊢ B)
    (hp : recvPay m ρ c ci k ⊢ iprop(owns (c : Thread nD τ) (cM ci s) fullShare (win g (chain ci).r0 cl (chain ci).rl (cw s) (chain ci).hr hc) ∗ R))
    {off : Fin 2 → ℕ} (hoff : off = ![(chain ci).r0, cl])
    {inb : ∀ a, off a + (![(chain ci).rl, cw s] : Fin 2 → ℕ) a ≤ S1024x1024.size a}
    {pay : Vec F ⟨2, ![(chain ci).rl, cw s]⟩ .f32 → Vec F ⟨2, ![(chain ci).rl, cw s]⟩ .f32 → FVec F ⟨2, ![(chain ci).rl, cw s]⟩ .f32}
    (hpay : ∀ v w, pay v w = addf v w)
    {hl₁ hl₃ : (oM : Memref sig .tc .vmem S1024x1024 .f32).view.LoadsAt (Rect.unit (s := S1024x1024) off ![(chain ci).rl, cw s] inb).toLoadRect}
    {hl₂ : (chain ci).buf.view.LoadsAt (crect ci s).toLoadRect}
    {hx : ((oM : Memref sig .tc .vmem S1024x1024 .f32).access (Rect.unit (s := S1024x1024) off ![(chain ci).rl, cw s] inb)).Stores Finset.univ}
    {hm : (Finset.univ : Finset (Rect.unit (s := S1024x1024) off ![(chain ci).rl, cw s] inb).shape.Idx) = Finset.univ
      ∨ ∀ a, (Rect.unit (s := S1024x1024) off ![(chain ci).rl, cw s] inb).stride a = 1}
    {α : Type} {Q : α → sProp 𝕄} {k' : PUnit → Prog (TpuEff nD τ sig (Elt F) Λ₀ .tc) α} :
    iprop(amb m ρ K ∗ fl c ci k ∗ A ∗ ow c l)
      ⊢ iprop(((dn c ci k ∗ R ∗ B ∗ cAny c ci s ∗ ow c l)
            -∗ wp frame (wpE (defs₀ (F := F)) 𝒱₀ (c : Thread nD τ) none) Set.univ (k' ⟨⟩) Q)
        -∗ wp frame (wpE (defs₀ (F := F)) 𝒱₀ (c : Thread nD τ) none) Set.univ
            (.op (.waitDma2 sS a b h₁ h₂) fun _ => .op (.waitDma2 sR a' b' h₁' h₂') fun _ =>
              .op (.load oM (Rect.unit (s := S1024x1024) off ![(chain ci).rl, cw s] inb).toLoadRect hl₁) fun v =>
              .op (.load (chain ci).buf (crect ci s).toLoadRect hl₂) fun w =>
              .op (.load oM (Rect.unit (s := S1024x1024) off ![(chain ci).rl, cw s] inb).toLoadRect hl₃) fun _ =>
              .op (.store oM (Rect.unit (s := S1024x1024) off ![(chain ci).rl, cw s] inb) (pay v w) Finset.univ hx hm) k') Q) := by
  iintro ⟨#HA, Hf, Hr, Ho⟩ Hk
  iapply (wait_both m ρ K c ci k l hl hS hR (Entails.refl _) hp) $$ [Hf Ho]
  · isplitr; · iexact HA
    isplitl [Hf] <;> iassumption
  iintro ⟨Hd, Hs, Hp, Ho⟩
  icases Hp with ⟨Hc, HR⟩
  ihave Hr := hA $$ [Hr Hs]
  · isplitl [Hr] <;> iassumption
  iapply (add_at c ci s hc f g hoff hpay) $$ [Hr Hc]
  · isplitl [Hr] <;> iassumption
  iintro ⟨Hr, Hc⟩
  ihave Hr := hB $$ Hr
  iapply Hk
  isplitl [Hd]; · iexact Hd
  isplitl [HR]; · iexact HR
  isplitl [Hr]; · iexact Hr
  isplitl [Hc] <;> iassumption

/-- Slot 1: slot 0 waited for and its arrivals added, the quarter of the kept half that the neighbour keeps is sent to it. -/
theorem step1 (l : List (Fin 6 × Fin 5)) (hl : ∀ p ∈ (ci, 1) :: l, (0 : Fin 5) < p.2)
    {a b a' b' : Memref sig .tc .vmem ⟨2, ![(chain ci).rl, wk 0]⟩ .f32}
    {h₁ : a.view.WordExact} {h₂ : b.view.WordExact} {h₁' : a'.view.WordExact} {h₂' : b'.view.WordExact}
    {sS sR : DmaSem sig} (hS : sS = xS 0 ci 0) (hR : sR = xS 1 ci 0)
    {off : Fin 2 → ℕ} (hoff : off = ![(chain ci).r0, hcol (chain ci).band c])
    {inb : ∀ a, off a + (![(chain ci).rl, cw 0] : Fin 2 → ℕ) a ≤ S1024x1024.size a}
    {pay : Vec F ⟨2, ![(chain ci).rl, cw 0]⟩ .f32 → Vec F ⟨2, ![(chain ci).rl, cw 0]⟩ .f32 → FVec F ⟨2, ![(chain ci).rl, cw 0]⟩ .f32}
    (hpay : ∀ v w, pay v w = addf v w)
    {hl₁ hl₃ : (oM : Memref sig .tc .vmem S1024x1024 .f32).view.LoadsAt (Rect.unit (s := S1024x1024) off ![(chain ci).rl, cw 0] inb).toLoadRect}
    {hl₂ : (chain ci).buf.view.LoadsAt (crect ci 0).toLoadRect}
    {hx : ((oM : Memref sig .tc .vmem S1024x1024 .f32).access (Rect.unit (s := S1024x1024) off ![(chain ci).rl, cw 0] inb)).Stores Finset.univ}
    {hm : (Finset.univ : Finset (Rect.unit (s := S1024x1024) off ![(chain ci).rl, cw 0] inb).shape.Idx) = Finset.univ
      ∨ ∀ a, (Rect.unit (s := S1024x1024) off ![(chain ci).rl, cw 0] inb).stride a = 1}
    {off' : Fin 2 → ℕ} (hoff' : off' = ![(chain ci).r0, qcol (chain ci).band (pr c ci 1)])
    {inb' : ∀ a, off' a + (![(chain ci).rl, wk 1] : Fin 2 → ℕ) a ≤ S1024x1024.size a} {n : Dev nD} (hn : n = pr c ci 1)
    {hsc : (show Memref sig (Dev.tc n : Thread nD τ).2.kind .vmem _ .f32 from cM ci 1).view.ref.isScScratch = false}
    {hsrc : (oS off' (chain ci).rl (wk 1) inb').view.WordExact} {hdst : (cM ci 1).view.WordExact}
    {sS' sR' : SemLoc sig} (hS' : sS' = .dma (xS 0 ci 1)) (hR' : sR' = .dma (xS 1 ci 1))
    {hsem : DmaTarget.Typed .vmem sR' (.remote (Dev.tc n : Thread nD τ) (cM ci 1) sS' hsc)}
    {α : Type} {Q : α → sProp 𝕄} {k' : PUnit → Prog (TpuEff nD τ sig (Elt F) Λ₀ .tc) α} :
    iprop(amb m ρ K ∗ P1 m ρ c ci ∗ ow c ((ci, 1) :: l))
      ⊢ iprop(((P2 m ρ c ci ∗ ow c l) -∗ wp frame (wpE (defs₀ (F := F)) 𝒱₀ (c : Thread nD τ) none) Set.univ (k' ⟨⟩) Q)
        -∗ wp frame (wpE (defs₀ (F := F)) 𝒱₀ (c : Thread nD τ) none) Set.univ
            (.op (.waitDma2 sS a b h₁ h₂) fun _ => .op (.waitDma2 sR a' b' h₁' h₂') fun _ =>
              .op (.load oM (Rect.unit (s := S1024x1024) off ![(chain ci).rl, cw 0] inb).toLoadRect hl₁) fun v =>
              .op (.load (chain ci).buf (crect ci 0).toLoadRect hl₂) fun w =>
              .op (.load oM (Rect.unit (s := S1024x1024) off ![(chain ci).rl, cw 0] inb).toLoadRect hl₃) fun _ =>
              .op (.store oM (Rect.unit (s := S1024x1024) off ![(chain ci).rl, cw 0] inb) (pay v w) Finset.univ hx hm) fun _ =>
              .op (.enqueueDma (oS off' (chain ci).rl (wk 1) inb') (.remote (Dev.tc n : Thread nD τ) (cM ci 1) sS' hsc) sR' hsrc hdst hsem) k') Q) := by
  subst hoff'
  unfold P1 P2
  iintro ⟨#HA, ⟨Hh, Hc1, Hc2, Hf, Ht1, Ht2, Ht3, Ht4⟩, Ho⟩ Hk
  iapply (wait_add m ρ K c ci 0 0 ((ci, 1) :: l) hl hS hR (hcol_le _ _) (val m ρ (chain ci).band 0 c) (val m ρ (chain ci).band 0 (pr c ci 0))
    (A := hPt c ci (part m ρ c)) (sep_emp (PROP := sProp 𝕄)).1 (Entails.of_eq (half_eq c ci (val m ρ (chain ci).band 1 c))) (Entails.refl _) hoff hpay) $$ [Hf Hh Ho]
  · isplitr; · iexact HA
    isplitl [Hf]; · iexact Hf
    isplitl [Hh]; · iexact Hh
    iexact Ho
  iintro ⟨Hd0, Hp, ⟨Hq, Hs⟩, Hc0, Ho⟩
  ihave Hs := (oS_in c (inb := inb') (show wk 1 = 256 from rfl) (val m ρ (chain ci).band 1 c)) $$ Hs
  ihave Hc1 := (cAny_mem ci (pr c ci 1) 1) $$ Hc1
  icases Hc1 with ⟨%fd, Hc1⟩
  iapply (send_give m ρ K c ci 1 l hn hS' hR' (val m ρ (chain ci).band 1 c) fd (Entails.refl _) (by
    show iprop(_ ∗ _) ⊢ iprop(qIn (pr c ci 1) ci 1 cw_1 (val m ρ (chain ci).band 1 (pr (pr c ci 1) ci 1))
      ∗ oPt (pr (pr c ci 1) ci 1) (reg (chain ci).r0 (chain ci).rl (qcol (chain ci).band (pr c ci 1)) 256) (val m ρ (chain ci).band 1 (pr (pr c ci 1) ci 1)))
    rw [pr_pr]
    refine Idealize.SL.BI.sep_mono ((landed ci (pr c ci 1) 1 fd _).trans (Entails.of_eq ?_)) (Entails.of_eq (oS_pt c (inb := inb') _))
    unfold qIn; congr 1; exact oS_read (chain ci).hr (qcol_le _ _) _)) $$ [Hs Hc1 Ho Ht1]
  · isplitr; · iexact HA
    isplitl [Hs]; · iexact Hs
    isplitl [Hc1]; · iexact Hc1
    isplitl [Ho]; · iexact Ho
    iexact Ht1
  iintro ⟨Hf, Ho⟩
  iapply Hk
  isplitr [Ho]
  · isplitl [Hq]; · iexact Hq
    isplitl [Hc2]; · iexact Hc2
    isplitl [Hc0]; · iexact Hc0
    isplitl [Hp]; · iexact Hp
    isplitl [Hd0]; · iexact Hd0
    isplitl [Hf]; · iexact Hf
    isplitl [Ht2]; · iexact Ht2
    isplitl [Ht3]; · iexact Ht3
    iexact Ht4
  iexact Ho

/-- Slot 2: slot 1 waited for and its arrivals added, the kept quarter is sent to the third neighbour. -/
theorem step2 (l : List (Fin 6 × Fin 5)) (hl : ∀ p ∈ (ci, 2) :: l, (1 : Fin 5) < p.2)
    {a b a' b' : Memref sig .tc .vmem ⟨2, ![(chain ci).rl, wk 1]⟩ .f32}
    {h₁ : a.view.WordExact} {h₂ : b.view.WordExact} {h₁' : a'.view.WordExact} {h₂' : b'.view.WordExact}
    {sS sR : DmaSem sig} (hS : sS = xS 0 ci 1) (hR : sR = xS 1 ci 1)
    {off : Fin 2 → ℕ} (hoff : off = ![(chain ci).r0, qcol (chain ci).band c])
    {inb : ∀ a, off a + (![(chain ci).rl, cw 1] : Fin 2 → ℕ) a ≤ S1024x1024.size a}
    {pay : Vec F ⟨2, ![(chain ci).rl, cw 1]⟩ .f32 → Vec F ⟨2, ![(chain ci).rl, cw 1]⟩ .f32 → FVec F ⟨2, ![(chain ci).rl, cw 1]⟩ .f32}
    (hpay : ∀ v w, pay v w = addf v w)
    {hl₁ hl₃ : (oM : Memref sig .tc .vmem S1024x1024 .f32).view.LoadsAt (Rect.unit (s := S1024x1024) off ![(chain ci).rl, cw 1] inb).toLoadRect}
    {hl₂ : (chain ci).buf.view.LoadsAt (crect ci 1).toLoadRect}
    {hx : ((oM : Memref sig .tc .vmem S1024x1024 .f32).access (Rect.unit (s := S1024x1024) off ![(chain ci).rl, cw 1] inb)).Stores Finset.univ}
    {hm : (Finset.univ : Finset (Rect.unit (s := S1024x1024) off ![(chain ci).rl, cw 1] inb).shape.Idx) = Finset.univ
      ∨ ∀ a, (Rect.unit (s := S1024x1024) off ![(chain ci).rl, cw 1] inb).stride a = 1}
    {off' : Fin 2 → ℕ} (hoff' : off' = ![(chain ci).r0, qcol (chain ci).band c])
    {inb' : ∀ a, off' a + (![(chain ci).rl, wk 2] : Fin 2 → ℕ) a ≤ S1024x1024.size a} {n : Dev nD} (hn : n = pr c ci 2)
    {hsc : (show Memref sig (Dev.tc n : Thread nD τ).2.kind .vmem _ .f32 from cM ci 2).view.ref.isScScratch = false}
    {hsrc : (oS off' (chain ci).rl (wk 2) inb').view.WordExact} {hdst : (cM ci 2).view.WordExact}
    {sS' sR' : SemLoc sig} (hS' : sS' = .dma (xS 0 ci 2)) (hR' : sR' = .dma (xS 1 ci 2))
    {hsem : DmaTarget.Typed .vmem sR' (.remote (Dev.tc n : Thread nD τ) (cM ci 2) sS' hsc)}
    {α : Type} {Q : α → sProp 𝕄} {k' : PUnit → Prog (TpuEff nD τ sig (Elt F) Λ₀ .tc) α} :
    iprop(amb m ρ K ∗ P2 m ρ c ci ∗ ow c ((ci, 2) :: l))
      ⊢ iprop(((P3 m ρ c ci ∗ ow c l) -∗ wp frame (wpE (defs₀ (F := F)) 𝒱₀ (c : Thread nD τ) none) Set.univ (k' ⟨⟩) Q)
        -∗ wp frame (wpE (defs₀ (F := F)) 𝒱₀ (c : Thread nD τ) none) Set.univ
            (.op (.waitDma2 sS a b h₁ h₂) fun _ => .op (.waitDma2 sR a' b' h₁' h₂') fun _ =>
              .op (.load oM (Rect.unit (s := S1024x1024) off ![(chain ci).rl, cw 1] inb).toLoadRect hl₁) fun v =>
              .op (.load (chain ci).buf (crect ci 1).toLoadRect hl₂) fun w =>
              .op (.load oM (Rect.unit (s := S1024x1024) off ![(chain ci).rl, cw 1] inb).toLoadRect hl₃) fun _ =>
              .op (.store oM (Rect.unit (s := S1024x1024) off ![(chain ci).rl, cw 1] inb) (pay v w) Finset.univ hx hm) fun _ =>
              .op (.enqueueDma (oS off' (chain ci).rl (wk 2) inb') (.remote (Dev.tc n : Thread nD τ) (cM ci 2) sS' hsc) sR' hsrc hdst hsem) k') Q) := by
  subst hoff'
  unfold P2 P3
  iintro ⟨#HA, ⟨Hq, Hc2, Hc0, Hp0, Hd0, Hf, Ht2, Ht3, Ht4⟩, Ho⟩ Hk
  iapply (wait_add m ρ K c ci 1 1 ((ci, 2) :: l) hl hS hR (qcol_le _ _) (val m ρ (chain ci).band 1 c) (val m ρ (chain ci).band 1 (pr c ci 1))
    (A := qPt c ci (val m ρ (chain ci).band 1 c)) (sep_emp (PROP := sProp 𝕄)).1
    (oS_in c (inb := inb') (show wk 2 = 256 from rfl) (val m ρ (chain ci).band 2 c)) (Entails.refl _) hoff hpay) $$ [Hf Hq Ho]
  · isplitr; · iexact HA
    isplitl [Hf]; · iexact Hf
    isplitl [Hq]; · iexact Hq
    iexact Ho
  iintro ⟨Hd1, Hp1, Hq, Hc1, Ho⟩
  ihave Hc2 := (cAny_mem ci (pr c ci 2) 2) $$ Hc2
  icases Hc2 with ⟨%fd, Hc2⟩
  iapply (send_keep m ρ K c ci 2 l (src := oS ![(chain ci).r0, qcol (chain ci).band c] (chain ci).rl (wk 2) inb') hn (dst := cM ci 2) hS' hR' (val m ρ (chain ci).band 2 c) fd
    (oS_out c (inb := inb') (show wk 2 = 256 from rfl) (val m ρ (chain ci).band 2 c)) (by
    show _ ⊢ qIn (pr c ci 2) ci 2 cw_2 (val m ρ (chain ci).band 2 (pr (pr c ci 2) ci 2))
    rw [pr_pr]
    have e : qcol (chain ci).band (pr c ci 2) = qcol (chain ci).band c := by
      unfold qcol pr; rw [bit_nb_of_ne _ _ (ax_ne (by decide) _), bit_nb_of_ne _ _ (ax_ne (by decide) _)]
    exact (landed ci (pr c ci 2) 2 fd _).trans (Entails.of_eq (congrArg (owns _ _ _)
      ((oS_read (w := wk 2) (inb := inb') (chain ci).hr (qcol_le _ c) _).trans (win_congr _ e.symm _ _ (qcol_le _ _))))))) $$ [Hq Hc2 Ho Ht2]
  · isplitr; · iexact HA
    isplitl [Hq]; · iexact Hq
    isplitl [Hc2]; · iexact Hc2
    isplitl [Ho]; · iexact Ho
    iexact Ht2
  iintro ⟨Hf, Ho⟩
  iapply Hk
  isplitr [Ho]
  · isplitl [Hc0]; · iexact Hc0
    isplitl [Hc1]; · iexact Hc1
    isplitl [Hp0]; · iexact Hp0
    isplitl [Hp1]; · iexact Hp1
    isplitl [Hd0]; · iexact Hd0
    isplitl [Hd1]; · iexact Hd1
    isplitl [Hf]; · iexact Hf
    isplitl [Ht3]; · iexact Ht3
    iexact Ht4
  iexact Ho

/-- Slot 3: slot 2 waited for and its arrivals added, the finished quarter is sent back to the second neighbour. -/
theorem step3 (l : List (Fin 6 × Fin 5)) (hl : ∀ p ∈ (ci, 3) :: l, (2 : Fin 5) < p.2)
    {a b a' b' : Memref sig .tc .vmem ⟨2, ![(chain ci).rl, wk 2]⟩ .f32}
    {h₁ : a.view.WordExact} {h₂ : b.view.WordExact} {h₁' : a'.view.WordExact} {h₂' : b'.view.WordExact}
    {sS sR : DmaSem sig} (hS : sS = xS 0 ci 2) (hR : sR = xS 1 ci 2)
    {off : Fin 2 → ℕ} (hoff : off = ![(chain ci).r0, qcol (chain ci).band c])
    {inb : ∀ a, off a + (![(chain ci).rl, cw 2] : Fin 2 → ℕ) a ≤ S1024x1024.size a}
    {pay : Vec F ⟨2, ![(chain ci).rl, cw 2]⟩ .f32 → Vec F ⟨2, ![(chain ci).rl, cw 2]⟩ .f32 → FVec F ⟨2, ![(chain ci).rl, cw 2]⟩ .f32}
    (hpay : ∀ v w, pay v w = addf v w)
    {hl₁ hl₃ : (oM : Memref sig .tc .vmem S1024x1024 .f32).view.LoadsAt (Rect.unit (s := S1024x1024) off ![(chain ci).rl, cw 2] inb).toLoadRect}
    {hl₂ : (chain ci).buf.view.LoadsAt (crect ci 2).toLoadRect}
    {hx : ((oM : Memref sig .tc .vmem S1024x1024 .f32).access (Rect.unit (s := S1024x1024) off ![(chain ci).rl, cw 2] inb)).Stores Finset.univ}
    {hm : (Finset.univ : Finset (Rect.unit (s := S1024x1024) off ![(chain ci).rl, cw 2] inb).shape.Idx) = Finset.univ
      ∨ ∀ a, (Rect.unit (s := S1024x1024) off ![(chain ci).rl, cw 2] inb).stride a = 1}
    {off' : Fin 2 → ℕ} (hoff' : off' = ![(chain ci).r0, qcol (chain ci).band c])
    {inb' : ∀ a, off' a + (![(chain ci).rl, wk 3] : Fin 2 → ℕ) a ≤ S1024x1024.size a} {n : Dev nD} (hn : n = pr c ci 3)
    {hsc : (show Memref sig (Dev.tc n : Thread nD τ).2.kind .vmem _ .f32 from oS off' (chain ci).rl (wk 3) inb').view.ref.isScScratch = false}
    {hsrc : (oS off' (chain ci).rl (wk 3) inb').view.WordExact} {hdst : (oS off' (chain ci).rl (wk 3) inb').view.WordExact}
    {sS' sR' : SemLoc sig} (hS' : sS' = .dma (xS 0 ci 3)) (hR' : sR' = .dma (xS 1 ci 3))
    {hsem : DmaTarget.Typed .vmem sR' (.remote (Dev.tc n : Thread nD τ) (oS off' (chain ci).rl (wk 3) inb') sS' hsc)}
    {α : Type} {Q : α → sProp 𝕄} {k' : PUnit → Prog (TpuEff nD τ sig (Elt F) Λ₀ .tc) α} :
    iprop(amb m ρ K ∗ P3 m ρ c ci ∗ ow c ((ci, 3) :: l))
      ⊢ iprop(((P4 m ρ c ci ∗ ow c l) -∗ wp frame (wpE (defs₀ (F := F)) 𝒱₀ (c : Thread nD τ) none) Set.univ (k' ⟨⟩) Q)
        -∗ wp frame (wpE (defs₀ (F := F)) 𝒱₀ (c : Thread nD τ) none) Set.univ
            (.op (.waitDma2 sS a b h₁ h₂) fun _ => .op (.waitDma2 sR a' b' h₁' h₂') fun _ =>
              .op (.load oM (Rect.unit (s := S1024x1024) off ![(chain ci).rl, cw 2] inb).toLoadRect hl₁) fun v =>
              .op (.load (chain ci).buf (crect ci 2).toLoadRect hl₂) fun w =>
              .op (.load oM (Rect.unit (s := S1024x1024) off ![(chain ci).rl, cw 2] inb).toLoadRect hl₃) fun _ =>
              .op (.store oM (Rect.unit (s := S1024x1024) off ![(chain ci).rl, cw 2] inb) (pay v w) Finset.univ hx hm) fun _ =>
              .op (.enqueueDma (oS off' (chain ci).rl (wk 3) inb') (.remote (Dev.tc n : Thread nD τ) (oS off' (chain ci).rl (wk 3) inb') sS' hsc) sR' hsrc hdst hsem) k') Q) := by
  subst hoff'
  unfold P3 P4
  iintro ⟨#HA, ⟨Hc0, Hc1, Hp0, Hp1, Hd0, Hd1, Hf, Ht3, Ht4⟩, Ho⟩ Hk
  iapply (wait_add m ρ K c ci 2 2 ((ci, 3) :: l) hl hS hR (qcol_le _ _) (val m ρ (chain ci).band 2 c) (val m ρ (chain ci).band 2 (pr c ci 2))
    (A := iprop(emp)) (R := iprop(emp)) (emp_sep (PROP := sProp 𝕄)).1
    (oS_in c (inb := inb') (show wk 3 = 256 from rfl) (val m ρ (chain ci).band 3 c)) (sep_emp (PROP := sProp 𝕄)).2 hoff hpay) $$ [Hf Ho]
  · isplitr; · iexact HA
    isplitl [Hf]; · iexact Hf
    isplitr; · iempintro
    iexact Ho
  iintro ⟨Hd2, -, Hq, Hc2, Ho⟩
  ihave Hp1 := (oS_in (pr c ci 3) (inb := inb') (show wk 3 = 256 from rfl) (val m ρ (chain ci).band 1 (pr c ci 3))) $$ Hp1
  iapply (send_keep m ρ K c ci 3 l (src := oS ![(chain ci).r0, qcol (chain ci).band c] (chain ci).rl (wk 3) inb') hn (dst := oS ![(chain ci).r0, qcol (chain ci).band c] (chain ci).rl (wk 3) inb') hS' hR' (val m ρ (chain ci).band 3 c) (val m ρ (chain ci).band 1 (pr c ci 3))
    (oS_out c (inb := inb') (show wk 3 = 256 from rfl) (val m ρ (chain ci).band 3 c)) (by
    show _ ⊢ oPt (pr c ci 3) (reg (chain ci).r0 (chain ci).rl (qcol (chain ci).band (pr (pr c ci 3) ci 3)) 256) (val m ρ (chain ci).band 3 (pr (pr c ci 3) ci 3))
    rw [pr_pr]
    exact landed_out (pr c ci 3) (chain ci).hr (qcol_le _ _) _ _ _ rfl)) $$ [Hq Hp1 Ho Ht3]
  · isplitr; · iexact HA
    isplitl [Hq]; · iexact Hq
    isplitl [Hp1]; · iexact Hp1
    isplitl [Ho]; · iexact Ho
    iexact Ht3
  iintro ⟨Hf, Ho⟩
  iapply Hk
  isplitr [Ho]
  · isplitl [Hc0]; · iexact Hc0
    isplitl [Hc1]; · iexact Hc1
    isplitl [Hc2]; · iexact Hc2
    isplitl [Hp0]; · iexact Hp0
    isplitl [Hd0]; · iexact Hd0
    isplitl [Hd1]; · iexact Hd1
    isplitl [Hd2]; · iexact Hd2
    isplitl [Hf]; · iexact Hf
    iexact Ht4
  iexact Ho

/-- Slot 4: slot 3 waited for, the finished half is sent back to the first neighbour. -/
theorem step4 (l : List (Fin 6 × Fin 5)) (hl : ∀ p ∈ (ci, 4) :: l, (3 : Fin 5) < p.2)
    {a b a' b' : Memref sig .tc .vmem ⟨2, ![(chain ci).rl, wk 3]⟩ .f32}
    {h₁ : a.view.WordExact} {h₂ : b.view.WordExact} {h₁' : a'.view.WordExact} {h₂' : b'.view.WordExact}
    {sS sR : DmaSem sig} (hS : sS = xS 0 ci 3) (hR : sR = xS 1 ci 3)
    {off' : Fin 2 → ℕ} (hoff' : off' = ![(chain ci).r0, hcol (chain ci).band c])
    {inb' : ∀ a, off' a + (![(chain ci).rl, wk 4] : Fin 2 → ℕ) a ≤ S1024x1024.size a} {n : Dev nD} (hn : n = pr c ci 4)
    {hsc : (show Memref sig (Dev.tc n : Thread nD τ).2.kind .vmem _ .f32 from oS off' (chain ci).rl (wk 4) inb').view.ref.isScScratch = false}
    {hsrc : (oS off' (chain ci).rl (wk 4) inb').view.WordExact} {hdst : (oS off' (chain ci).rl (wk 4) inb').view.WordExact}
    {sS' sR' : SemLoc sig} (hS' : sS' = .dma (xS 0 ci 4)) (hR' : sR' = .dma (xS 1 ci 4))
    {hsem : DmaTarget.Typed .vmem sR' (.remote (Dev.tc n : Thread nD τ) (oS off' (chain ci).rl (wk 4) inb') sS' hsc)}
    {α : Type} {Q : α → sProp 𝕄} {k' : PUnit → Prog (TpuEff nD τ sig (Elt F) Λ₀ .tc) α} :
    iprop(amb m ρ K ∗ P4 m ρ c ci ∗ ow c ((ci, 4) :: l))
      ⊢ iprop(((P5 c ci ∗ ow c l) -∗ wp frame (wpE (defs₀ (F := F)) 𝒱₀ (c : Thread nD τ) none) Set.univ (k' ⟨⟩) Q)
        -∗ wp frame (wpE (defs₀ (F := F)) 𝒱₀ (c : Thread nD τ) none) Set.univ
            (.op (.waitDma2 sS a b h₁ h₂) fun _ => .op (.waitDma2 sR a' b' h₁' h₂') fun _ =>
              .op (.enqueueDma (oS off' (chain ci).rl (wk 4) inb') (.remote (Dev.tc n : Thread nD τ) (oS off' (chain ci).rl (wk 4) inb') sS' hsc) sR' hsrc hdst hsem) k') Q) := by
  subst hoff'
  unfold P4 P5
  iintro ⟨#HA, ⟨Hc0, Hc1, Hc2, Hp0, Hd0, Hd1, Hd2, Hf, Ht4⟩, Ho⟩ Hk
  iapply (wait_both m ρ K c ci 3 ((ci, 4) :: l) hl hS hR (S := qPt c ci (val m ρ (chain ci).band 3 c))
    (R := oPt c (reg (chain ci).r0 (chain ci).rl (qcol (chain ci).band (pr c ci 3)) 256) (val m ρ (chain ci).band 3 (pr c ci 3)))
    (Entails.refl _) (Entails.refl _)) $$ [Hf Ho]
  · isplitr; · iexact HA
    isplitl [Hf] <;> iassumption
  iintro ⟨Hd3, Hq, Hr, Ho⟩
  ihave Hh := (Entails.of_eq (half_join m ρ c ci)) $$ [Hq Hr]
  · isplitl [Hq]; · iexact Hq
    iexact Hr
  unfold hPt
  ihave Hh := (oS_in c (inb := inb') (show wk 4 = 512 from rfl) (half m ρ (chain ci).band c)) $$ Hh
  ihave Hp0 := (oS_in (pr c ci 4) (inb := inb') (show wk 4 = 512 from rfl) (part m ρ (pr c ci 4))) $$ Hp0
  iapply (send_keep m ρ K c ci 4 l (src := oS ![(chain ci).r0, hcol (chain ci).band c] (chain ci).rl (wk 4) inb') hn (dst := oS ![(chain ci).r0, hcol (chain ci).band c] (chain ci).rl (wk 4) inb') hS' hR' (half m ρ (chain ci).band c) (part m ρ (pr c ci 4))
    (oS_out c (inb := inb') (show wk 4 = 512 from rfl) (half m ρ (chain ci).band c)) (by
    show _ ⊢ oPt (pr c ci 4) (reg (chain ci).r0 (chain ci).rl (hcol (chain ci).band (pr (pr c ci 4) ci 4)) 512) (half m ρ (chain ci).band (pr (pr c ci 4) ci 4))
    rw [pr_pr]
    exact landed_out (pr c ci 4) (chain ci).hr (hcol_le _ _) _ _ _ rfl)) $$ [Hh Hp0 Ho Ht4]
  · isplitr; · iexact HA
    isplitl [Hh]; · iexact Hh
    isplitl [Hp0]; · iexact Hp0
    isplitl [Ho]; · iexact Ho
    iexact Ht4
  iintro ⟨Hf, Ho⟩
  iapply Hk
  isplitr [Ho]
  · isplitl [Hc0]; · iexact Hc0
    isplitl [Hc1]; · iexact Hc1
    isplitl [Hc2]; · iexact Hc2
    isplitl [Hd0]; · iexact Hd0
    isplitl [Hd1]; · iexact Hd1
    isplitl [Hd2]; · iexact Hd2
    isplitl [Hd3]; · iexact Hd3
    iexact Hf
  iexact Ho

/-- The end of a strip: slot 4 waited for. -/
theorem step5 (l : List (Fin 6 × Fin 5)) (hl : ∀ p ∈ l, (4 : Fin 5) < p.2)
    {a b a' b' : Memref sig .tc .vmem ⟨2, ![(chain ci).rl, wk 4]⟩ .f32}
    {h₁ : a.view.WordExact} {h₂ : b.view.WordExact} {h₁' : a'.view.WordExact} {h₂' : b'.view.WordExact}
    {sS sR : DmaSem sig} (hS : sS = xS 0 ci 4) (hR : sR = xS 1 ci 4)
    {α : Type} {Q : α → sProp 𝕄} {k' : PUnit → Prog (TpuEff nD τ sig (Elt F) Λ₀ .tc) α} :
    iprop(amb m ρ K ∗ P5 c ci ∗ ow c l)
      ⊢ iprop(((P6 m ρ c ci ∗ ow c l) -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 sS a b h₁ h₂) fun _ => .op (.waitDma2 sR a' b' h₁' h₂') k') Q) := by
  unfold P5 P6
  iintro ⟨#HA, ⟨Hc0, Hc1, Hc2, Hd0, Hd1, Hd2, Hd3, Hf⟩, Ho⟩ Hk
  iapply (wait_both m ρ K c ci 4 l hl hS hR (S := hPt c ci (half m ρ (chain ci).band c))
    (R := oPt c (reg (chain ci).r0 (chain ci).rl (hcol (chain ci).band (pr c ci 4)) 512) (half m ρ (chain ci).band (pr c ci 4)))
    (Entails.refl _) (Entails.refl _)) $$ [Hf Ho]
  · isplitr; · iexact HA
    isplitl [Hf] <;> iassumption
  iintro ⟨Hd4, Hq, Hr, Ho⟩
  ihave Hh := (Entails.of_eq (full_join m ρ c ci)) $$ [Hq Hr]
  · isplitl [Hq]; · iexact Hq
    iexact Hr
  iapply Hk
  isplitr [Ho]
  · isplitl [Hh]; · iexact Hh
    isplitl [Hc0 Hc1 Hc2]
    · isplitl [Hc0]; · iexact Hc0
      isplitl [Hc1] <;> iassumption
    isplitl [Hd0]; · iexact Hd0
    isplitl [Hd1]; · iexact Hd1
    isplitl [Hd2]; · iexact Hd2
    isplitl [Hd3] <;> iassumption
  iexact Ho

end Slots

end Ops

end AllReduce.KernelIdeal
-- ==== Proof.KernelIdealBody.lean ====
/-
The kernel's body, from what a device holds when it starts to what it leaves: the barrier with the three neighbours,
the three bands' products, and the six strips' slots in the order the kernel interleaves them.
-/
module
public import proofs.«01_k».proof.Proof.KernelIdealSteps
public import proofs.«01_k».proof.Proof.Gen.KernelIdeal.Points
public import Idealize.ShloMosaic.Lib.Pipeline.Value

@[expose] public section

noncomputable section

namespace AllReduce.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The device numbers and offsets the kernel computes -/

section Numbers
variable (c : Dev nD)

theorem dev_1 : (⟨k0_dev1 c, k0_dev1_lt c⟩ : Dev nD) = nb 0 c := by revert c; decide
theorem dev_2 : (⟨k0_dev2 c, k0_dev2_lt c⟩ : Dev nD) = nb 1 c := by revert c; decide
theorem dev_3 : (⟨k0_dev3 c, k0_dev3_lt c⟩ : Dev nD) = nb 2 c := by revert c; decide
theorem dev_4 : (⟨k0_dev4 c, k0_dev4_lt c⟩ : Dev nD) = pr c 0 0 := by revert c; decide
theorem dev_5 : (⟨k0_dev5 c, k0_dev5_lt c⟩ : Dev nD) = pr c 1 0 := by revert c; decide
theorem dev_6 : (⟨k0_dev6 c, k0_dev6_lt c⟩ : Dev nD) = pr c 2 0 := by revert c; decide
theorem dev_7 : (⟨k0_dev7 c, k0_dev7_lt c⟩ : Dev nD) = pr c 3 0 := by revert c; decide
theorem dev_8 : (⟨k0_dev8 c, k0_dev8_lt c⟩ : Dev nD) = pr c 4 0 := by revert c; decide
theorem dev_9 : (⟨k0_dev9 c, k0_dev9_lt c⟩ : Dev nD) = pr c 5 0 := by revert c; decide
theorem dev_10 : (⟨k0_dev10 c, k0_dev10_lt c⟩ : Dev nD) = pr c 0 1 := by revert c; decide
theorem dev_11 : (⟨k0_dev11 c, k0_dev11_lt c⟩ : Dev nD) = pr c 1 1 := by revert c; decide
theorem dev_12 : (⟨k0_dev12 c, k0_dev12_lt c⟩ : Dev nD) = pr c 2 1 := by revert c; decide
theorem dev_13 : (⟨k0_dev13 c, k0_dev13_lt c⟩ : Dev nD) = pr c 3 1 := by revert c; decide
theorem dev_14 : (⟨k0_dev14 c, k0_dev14_lt c⟩ : Dev nD) = pr c 4 1 := by revert c; decide
theorem dev_15 : (⟨k0_dev15 c, k0_dev15_lt c⟩ : Dev nD) = pr c 5 1 := by revert c; decide
theorem dev_16 : (⟨k0_dev16 c, k0_dev16_lt c⟩ : Dev nD) = pr c 0 2 := by revert c; decide
theorem dev_17 : (⟨k0_dev17 c, k0_dev17_lt c⟩ : Dev nD) = pr c 1 2 := by revert c; decide
theorem dev_18 : (⟨k0_dev18 c, k0_dev18_lt c⟩ : Dev nD) = pr c 2 2 := by revert c; decide
theorem dev_19 : (⟨k0_dev19 c, k0_dev19_lt c⟩ : Dev nD) = pr c 3 2 := by revert c; decide
theorem dev_20 : (⟨k0_dev20 c, k0_dev20_lt c⟩ : Dev nD) = pr c 4 2 := by revert c; decide
theorem dev_21 : (⟨k0_dev21 c, k0_dev21_lt c⟩ : Dev nD) = pr c 5 2 := by revert c; decide
theorem dev_22 : (⟨k0_dev22 c, k0_dev22_lt c⟩ : Dev nD) = pr c 0 3 := by revert c; decide
theorem dev_23 : (⟨k0_dev23 c, k0_dev23_lt c⟩ : Dev nD) = pr c 1 3 := by revert c; decide
theorem dev_24 : (⟨k0_dev24 c, k0_dev24_lt c⟩ : Dev nD) = pr c 2 3 := by revert c; decide
theorem dev_25 : (⟨k0_dev25 c, k0_dev25_lt c⟩ : Dev nD) = pr c 3 3 := by revert c; decide
theorem dev_26 : (⟨k0_dev26 c, k0_dev26_lt c⟩ : Dev nD) = pr c 4 3 := by revert c; decide
theorem dev_27 : (⟨k0_dev27 c, k0_dev27_lt c⟩ : Dev nD) = pr c 5 3 := by revert c; decide
theorem dev_28 : (⟨k0_dev28 c, k0_dev28_lt c⟩ : Dev nD) = pr c 0 4 := by revert c; decide
theorem dev_29 : (⟨k0_dev29 c, k0_dev29_lt c⟩ : Dev nD) = pr c 1 4 := by revert c; decide
theorem dev_30 : (⟨k0_dev30 c, k0_dev30_lt c⟩ : Dev nD) = pr c 2 4 := by revert c; decide
theorem dev_31 : (⟨k0_dev31 c, k0_dev31_lt c⟩ : Dev nD) = pr c 3 4 := by revert c; decide
theorem dev_32 : (⟨k0_dev32 c, k0_dev32_lt c⟩ : Dev nD) = pr c 4 4 := by revert c; decide
theorem dev_33 : (⟨k0_dev33 c, k0_dev33_lt c⟩ : Dev nD) = pr c 5 4 := by revert c; decide
theorem off_1 : k0_off1 c = ![(chain 0).r0, hcol (chain 0).band (pr c 0 0)] := by revert c; decide
theorem off_2 : k0_off2 c = ![(chain 1).r0, hcol (chain 1).band (pr c 1 0)] := by revert c; decide
theorem off_3 : k0_off3 c = ![(chain 2).r0, hcol (chain 2).band (pr c 2 0)] := by revert c; decide
theorem off_4 : k0_off4 c = ![(chain 3).r0, hcol (chain 3).band (pr c 3 0)] := by revert c; decide
theorem off_5 : k0_off5 c = ![(chain 4).r0, hcol (chain 4).band (pr c 4 0)] := by revert c; decide
theorem off_6 : k0_off6 c = ![(chain 5).r0, hcol (chain 5).band (pr c 5 0)] := by revert c; decide
theorem off_7 : k0_off7 c = ![(chain 0).r0, hcol (chain 0).band c] := by revert c; decide
theorem off_8 : k0_off8 c = ![(chain 0).r0, qcol (chain 0).band (pr c 0 1)] := by revert c; decide
theorem off_9 : k0_off9 c = ![(chain 1).r0, hcol (chain 1).band c] := by revert c; decide
theorem off_10 : k0_off10 c = ![(chain 1).r0, qcol (chain 1).band (pr c 1 1)] := by revert c; decide
theorem off_11 : k0_off11 c = ![(chain 2).r0, hcol (chain 2).band c] := by revert c; decide
theorem off_12 : k0_off12 c = ![(chain 2).r0, qcol (chain 2).band (pr c 2 1)] := by revert c; decide
theorem off_13 : k0_off13 c = ![(chain 3).r0, hcol (chain 3).band c] := by revert c; decide
theorem off_14 : k0_off14 c = ![(chain 3).r0, qcol (chain 3).band (pr c 3 1)] := by revert c; decide
theorem off_15 : k0_off15 c = ![(chain 4).r0, hcol (chain 4).band c] := by revert c; decide
theorem off_16 : k0_off16 c = ![(chain 4).r0, qcol (chain 4).band (pr c 4 1)] := by revert c; decide
theorem off_17 : k0_off17 c = ![(chain 5).r0, hcol (chain 5).band c] := by revert c; decide
theorem off_18 : k0_off18 c = ![(chain 5).r0, qcol (chain 5).band (pr c 5 1)] := by revert c; decide
theorem off_19 : k0_off19 c = ![(chain 0).r0, qcol (chain 0).band c] := by revert c; decide
theorem off_20 : k0_off20 c = ![(chain 0).r0, qcol (chain 0).band c] := by revert c; decide
theorem off_21 : k0_off21 c = ![(chain 1).r0, qcol (chain 1).band c] := by revert c; decide
theorem off_22 : k0_off22 c = ![(chain 1).r0, qcol (chain 1).band c] := by revert c; decide
theorem off_23 : k0_off23 c = ![(chain 2).r0, qcol (chain 2).band c] := by revert c; decide
theorem off_24 : k0_off24 c = ![(chain 2).r0, qcol (chain 2).band c] := by revert c; decide
theorem off_25 : k0_off25 c = ![(chain 3).r0, qcol (chain 3).band c] := by revert c; decide
theorem off_26 : k0_off26 c = ![(chain 3).r0, qcol (chain 3).band c] := by revert c; decide
theorem off_27 : k0_off27 c = ![(chain 4).r0, qcol (chain 4).band c] := by revert c; decide
theorem off_28 : k0_off28 c = ![(chain 4).r0, qcol (chain 4).band c] := by revert c; decide
theorem off_29 : k0_off29 c = ![(chain 5).r0, qcol (chain 5).band c] := by revert c; decide
theorem off_30 : k0_off30 c = ![(chain 5).r0, qcol (chain 5).band c] := by revert c; decide
theorem off_31 : k0_off31 c = ![(chain 0).r0, hcol (chain 0).band c] := by revert c; decide
theorem off_32 : k0_off32 c = ![(chain 1).r0, hcol (chain 1).band c] := by revert c; decide
theorem off_33 : k0_off33 c = ![(chain 2).r0, hcol (chain 2).band c] := by revert c; decide
theorem off_34 : k0_off34 c = ![(chain 3).r0, hcol (chain 3).band c] := by revert c; decide
theorem off_35 : k0_off35 c = ![(chain 4).r0, hcol (chain 4).band c] := by revert c; decide
theorem off_36 : k0_off36 c = ![(chain 5).r0, hcol (chain 5).band c] := by revert c; decide

end Numbers

/-! ## Families of three, five and six -/

omit [FloatOps F] in
theorem b3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem b5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem b6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## The scratch buffers -/

/-- A strip's scratch buffer, holding anything. -/
def scr (c : Dev nD) (ci : Fin 6) : sProp 𝕄 := iprop(∃ X, owns (c : Thread nD τ) (chain ci).buf fullShare X)

section Scratch
variable (ci : Fin 6)

theorem mem_crect (s : Fin 3) (i : (⟨2, ![(chain ci).rl, 1024]⟩ : Shape).Idx) :
    i ∈ (crect ci s).set ↔ cc s ≤ (i 1).val ∧ (i 1).val < cc s + cw s := by
  have h0 : (i 0).val < (chain ci).rl := (i 0).2
  unfold crect
  rw [Rect.mem_set_unit, Fin.forall_fin_two]
  constructor
  · exact fun h => h.2
  · exact fun h => ⟨⟨Nat.zero_le _, by show (i 0).val < 0 + (chain ci).rl; omega⟩, h⟩

theorem crect_disj (s t : Fin 3) (h : s ≠ t) : Disjoint (crect ci s).set (crect ci t).set := by
  rw [Finset.disjoint_left]; intro i hi hi'
  rw [mem_crect] at hi hi'
  have e : cc s + cw s ≤ cc t ∨ cc t + cw t ≤ cc s := (show ∀ s t : Fin 3, s ≠ t → cc s + cw s ≤ cc t ∨ cc t + cw t ≤ cc s by decide) s t h
  omega

theorem crect_cov : (Finset.univ : Finset (Fin 3)).biUnion (fun s => (crect ci s).set) = Finset.univ := by
  ext i
  have h1 : (i 1).val < 1024 := (i 1).2
  rw [Finset.mem_biUnion]
  refine ⟨fun _ => Finset.mem_univ _, fun _ => ?_⟩
  by_cases h : (i 1).val < 512
  · exact ⟨0, Finset.mem_univ _, (mem_crect ci 0 i).mpr ⟨Nat.zero_le _, by show _ < 0 + 512; omega⟩⟩
  by_cases h' : (i 1).val < 768
  · exact ⟨1, Finset.mem_univ _, (mem_crect ci 1 i).mpr ⟨by show 512 ≤ _; omega, by show _ < 512 + 256; omega⟩⟩
  · exact ⟨2, Finset.mem_univ _, (mem_crect ci 2 i).mpr ⟨by show 768 ≤ _; omega, by show _ < 768 + 256; omega⟩⟩

omit [FloatOps F] in
theorem cAny_intro (c : Dev nD) (s : Fin 3) (X) : (owns (c : Thread nD τ) (cM ci s) fullShare X : sProp 𝕄) ⊢ cAny c ci s := by
  unfold cAny; iintro H; iexists X; iexact H

omit [FloatOps F] in
theorem scr_split (c : Dev nD) : (scr c ci : sProp 𝕄) ⊢ bigSep Finset.univ fun s => cAny c ci s := by
  unfold scr
  iintro ⟨%X, H⟩
  ihave H := (owns_rects (c : Thread nD τ) (chain ci).buf fullShare (crect ci) (fun _ _ => rfl) (crect_disj ci) (crect_cov ci) X) $$ H
  have h : (bigSep Finset.univ fun s => (owns (c : Thread nD τ) (cM ci s) fullShare fun j => X ((crect ci s).emb j) : sProp 𝕄))
      ⊢ bigSep Finset.univ fun s => cAny c ci s := bigSep_mono fun s _ => cAny_intro ci c s _
  iapply h; iexact H

omit [FloatOps F] in
theorem any_of {sp : Space} {S : Shape} {e : EltTy} (mm : Memref sig .tc sp S e) (c : Dev nD) {f : Buf (Elt F) (mm.view.loc (c : Thread nD τ))} :
    ((mm.view.loc (c : Thread nD τ) ↦[mm.view.set]{fullShare} f) : sProp 𝕄) ⊢ iprop(∃ X, owns (c : Thread nD τ) mm fullShare X) := by
  unfold owns; iintro H; iexists (mm.view.read (Elt F) f); iexists f
  isplitr
  · ipureintro; rfl
  iexact H

omit [FloatOps F] in
theorem scr_join (c : Dev nD) : iprop(cAny c ci 0 ∗ cAny c ci 1 ∗ cAny c ci 2) ⊢ (scr c ci : sProp 𝕄) := by
  have hd (s t : Fin 3) (h : s ≠ t) : Disjoint (cM ci s).view.set (cM ci t).view.set := by
    show Disjoint ((chain ci).buf.view.slice (crect ci s)).set ((chain ci).buf.view.slice (crect ci t)).set
    rw [View.set_slice, View.set_slice]; exact (Finset.disjoint_map _).mpr (crect_disj ci s t h)
  have hset : (chain ci).buf.view.set = ((cM ci 0).view.set ∪ (cM ci 1).view.set) ∪ (cM ci 2).view.set := by
    show _ = (((chain ci).buf.view.slice (crect ci 0)).set ∪ ((chain ci).buf.view.slice (crect ci 1)).set) ∪ ((chain ci).buf.view.slice (crect ci 2)).set
    rw [View.set_slice, View.set_slice, View.set_slice, ← Finset.map_union, ← Finset.map_union, View.set]
    congr 1
    rw [← crect_cov ci]
    ext i
    simp only [Finset.mem_biUnion, Finset.mem_univ, true_and, Finset.mem_union, Fin.exists_fin_succ, Fin.exists_fin_zero, or_false]
    rw [or_assoc]; rfl
  unfold scr
  iintro ⟨H0, H1, H2⟩
  ihave H0 := (cAny_mem ci c 0) $$ H0
  ihave H1 := (cAny_mem ci c 1) $$ H1
  ihave H2 := (cAny_mem ci c 2) $$ H2
  icases H0 with ⟨%f0, H0⟩
  icases H1 with ⟨%f1, H1⟩
  icases H2 with ⟨%f2, H2⟩
  ihave H := (pointsTo_join (ℓ := (chain ci).buf.view.loc (c : Thread nD τ)) (hd 0 1 (by decide))) $$ [H0 H1]
  · isplitl [H0] <;> iassumption
  ihave H := (pointsTo_join (ℓ := (chain ci).buf.view.loc (c : Thread nD τ)) (Finset.disjoint_union_left.mpr ⟨hd 0 2 (by decide), hd 1 2 (by decide)⟩)) $$ [H H2]
  · isplitl [H] <;> iassumption
  iapply (any_of ((chain ci).buf) c)
  rw [hset]
  iexact H

omit [FloatOps F] in
/-- The landing regions, by axis and by strip. -/
theorem regroup (X : Fin 6 → Fin 3 → Fin 3 → sProp 𝕄) :
    (bigSep Finset.univ fun a : Fin 3 => bigSep Finset.univ fun ci : Fin 6 => X ci a (axInv (chain ci).band a))
      = bigSep Finset.univ fun ci : Fin 6 => bigSep Finset.univ fun s : Fin 3 => X ci (ax (chain ci).band s) s := by
  rw [bigSep_univ_comm]
  refine bigSep_congr fun ci _ => ?_
  rw [bigSep_univ_equiv (axE (chain ci).band)]
  refine bigSep_congr fun s _ => ?_
  show X ci (ax (chain ci).band s) (axInv (chain ci).band (ax (chain ci).band s)) = _
  rw [axInv_ax]

end Scratch

/-! ## The barrier -/

section Bar
variable (K : Dev nD × Option TI → ℕ) (c : Dev nD)

theorem signal_bar (a : Fin 3) (O : CellTallies nD τ sig Unit) (W : Waits sig Unit) {n : Dev nD} (hn : n = nb a c) {x : ℕ} (hx : x = 1)
    {α : Type} {Q : α → sProp 𝕄} {k' : PUnit → Prog (TpuEff nD τ sig (Elt F) Λ₀ .tc) α} :
    iprop(amb m ρ K ∗ owes (c : Thread nD τ) (O + tallyAt (barCell (nb a c)) () 1) W ∗ dutyTok ER (barCell (nb a c)) 0 a ∗ barPay (nb a c) a)
      ⊢ iprop((owes (c : Thread nD τ) O W -∗ wp frame (wpE (defs₀ (F := F)) 𝒱₀ (c : Thread nD τ) none) Set.univ (k' ⟨⟩) Q)
        -∗ wp frame (wpE (defs₀ (F := F)) 𝒱₀ (c : Thread nD τ) none) Set.univ (.op (.semSignal (n : Thread nD τ) barS x) k') Q) := by
  subst hn hx
  unfold amb
  iintro ⟨⟨#HR, -⟩, Ho, Ht, Hp⟩ Hk
  iapply (Rounds.wp_signal 𝒱₀ ER (sched m ρ) (c : Thread nD τ) none (dst := (nb a c : Thread nD τ)) (κ := K (nb a c, none))
      (d := a) (by rw [duties_bar]; exact Finset.mem_univ _) (amount_bar m ρ (nb a c) a) () O rfl) $$ [Ho Ht Hp]
  · isplitr; · iapply (inv_at m ρ K (nb a c, none)); iexact HR
    isplitl [Ho]; · iexact Ho
    isplitl [Ht]; · iexact Ht
    isplitl [Hp]; · rw [payload_bar]; iexact Hp
    iapply (reached_at m ρ K (nb a c, none)); iexact HR
  iexact Hk

theorem wait_bar (W : Waits sig Unit) {x : ℕ} (hx : x = 3)
    {α : Type} {Q : α → sProp 𝕄} {k' : PUnit → Prog (TpuEff nD τ sig (Elt F) Λ₀ .tc) α} :
    iprop(amb m ρ K ∗ owes (c : Thread nD τ) (owedL c sends) W ∗ atPos ER (barCell c) 0 ∅ 0 ∗ cred (tallyAt (barCell c) () 3))
      ⊢ iprop(((ow c sends ∗ semVal (barCell c) 0 ∗ bigSep Finset.univ fun a => barPay c a) -∗ wp frame (wpE (defs₀ (F := F)) 𝒱₀ (c : Thread nD τ) none) Set.univ (k' ⟨⟩) Q)
        -∗ wp frame (wpE (defs₀ (F := F)) 𝒱₀ (c : Thread nD τ) none) Set.univ (.op (.semWait barS x) k') Q) := by
  subst hx
  unfold amb ow
  iintro ⟨⟨#HR, #Hlev⟩, Ho, Ha, Hc⟩ Hk
  iapply (Rounds.wp_wait_rest_token 𝒱₀ ER (sched m ρ) (c : Thread nD τ) none (κ := K (c, none))
      (wpE_semWait_eq 𝒱₀ (c : Thread nD τ) none Set.univ) (Set.mem_univ _) () (O := owedL c sends) (W := W) (R := 0) (m := 0) (T := ∅)
      (by rw [expect_bar])) $$ [Hc Ho Ha]
  · isplitr; · iapply (inv_at m ρ K (c, none)); iexact HR
    isplitl [Hc]; · iexact Hc
    isplitl [Ho]; · iexact Ho
    isplitr; · iapply (mayWait_bar c); iexact Hlev
    iexact Ha
  iintro ⟨Ho, Ha, -, Hp⟩
  ihave Hp := (Entails.of_eq (rest_bar m ρ c)) $$ Hp
  imod (Rounds.cell_close ER (sched m ρ) (Set.mem_univ (K (c, none))) (fun h => h) (R := 0 + 1) (duties_later m ρ (barCell c))) $$ [Ha] with Hz
  · isplitr; · iapply (inv_at m ρ K (c, none)); iexact HR
    iexact Ha
  iapply Hk
  isplitl [Ho]; · iexists _; iexact Ho
  isplitl [Hz] <;> iassumption

end Bar

/-! ## Bands of the output -/

omit [FloatOps F] in
/-- Rows `r ..` are the first `h` of them and the next `h'`. -/
theorem rows_union (c : Dev nD) (r h h' : ℕ) (f : OutC F) :
    oPt c (reg r (h + h') 0 1024) f = iprop(oPt c (reg r h 0 1024) f ∗ oPt c (reg (r + h) h' 0 1024) f) := by
  refine oPt_union c ?_ ?_ f
  · ext i; rw [Finset.mem_union, mem_reg, mem_reg, mem_reg]; omega
  · rw [Finset.disjoint_left]; intro i hi hi'
    rw [mem_reg] at hi hi'; omega

section Band
variable (c : Dev nD)

/-- The operands in their staging buffers. -/
def xPt : sProp 𝕄 := ((c : Thread nD τ).loc cc0_stg0_0) ↦{fullShare} (xstg m ρ c)
def wPt : sProp 𝕄 := ((c : Thread nD τ).loc cc0_stg1_0) ↦{fullShare} (wstg m ρ c)

theorem x_read {r h : ℕ} (hr : r + h ≤ 1024) {inb : ∀ a, (![r, 0] : Fin 2 → ℕ) a + (![h, 128] : Fin 2 → ℕ) a ≤ S1024x128.size a} :
    (xM : Memref sig .tc .vmem S1024x128 .f32).view.readAt (Elt F) (Rect.unit (s := S1024x128) ![r, 0] ![h, 128] inb).toLoadRect (xstg m ρ c)
      = xrow m ρ c r h hr := by
  funext j
  show xstg m ρ c ((Rect.unit (s := S1024x128) ![r, 0] ![h, 128] inb).emb j) = _
  unfold xrow
  congr 1
  funext a
  apply Fin.ext
  rw [Rect.emb_apply]
  match a with
  | ⟨0, _⟩ => show r + 1 * (j 0).val = r + (j 0).val; omega
  | ⟨1, _⟩ => show 0 + 1 * (j 1).val = (j 1).val; omega

/-- The band's product: both operands loaded, the output's rows stored. -/
theorem band_store (r h : ℕ) (hr : r + h ≤ 1024)
    {inbx : ∀ a, (![r, 0] : Fin 2 → ℕ) a + (![h, 128] : Fin 2 → ℕ) a ≤ S1024x128.size a}
    {inbw : ∀ a, (![0, 0] : Fin 2 → ℕ) a + S128x1024.size a ≤ S128x1024.size a}
    {inbo : ∀ a, (![r, 0] : Fin 2 → ℕ) a + (![h, 1024] : Fin 2 → ℕ) a ≤ S1024x1024.size a}
    {pay : Vec F ⟨2, ![h, 128]⟩ .f32 → Vec F S128x1024 .f32 → FVec F ⟨2, ![h, 1024]⟩ .f32}
    (hpay : pay (xrow m ρ c r h hr) (wstg m ρ c) = win (part m ρ c) r 0 h 1024 hr (Nat.le_refl _)) (f : OutC F)
    {hl₁ : (xM : Memref sig .tc .vmem S1024x128 .f32).view.LoadsAt (Rect.unit (s := S1024x128) ![r, 0] ![h, 128] inbx).toLoadRect}
    {hl₂ : (wM : Memref sig .tc .vmem S128x1024 .f32).view.LoadsAt (Rect.unit (s := S128x1024) ![0, 0] S128x1024.size inbw).toLoadRect}
    {hl₃ : (oM : Memref sig .tc .vmem S1024x1024 .f32).view.LoadsAt (Rect.unit (s := S1024x1024) ![r, 0] ![h, 1024] inbo).toLoadRect}
    {hx : ((oM : Memref sig .tc .vmem S1024x1024 .f32).access (Rect.unit (s := S1024x1024) ![r, 0] ![h, 1024] inbo)).Stores Finset.univ}
    {hm : (Finset.univ : Finset (Rect.unit (s := S1024x1024) ![r, 0] ![h, 1024] inbo).shape.Idx) = Finset.univ
      ∨ ∀ a, (Rect.unit (s := S1024x1024) ![r, 0] ![h, 1024] inbo).stride a = 1}
    {α : Type} {Q : α → sProp 𝕄} {k' : PUnit → Prog (TpuEff nD τ sig (Elt F) Λ₀ .tc) α} :
    iprop(xPt m ρ c ∗ wPt m ρ c ∗ oPt c (reg r h 0 1024) f)
      ⊢ iprop(((xPt m ρ c ∗ wPt m ρ c ∗ oPt c (reg r h 0 1024) (part m ρ c))
            -∗ wp frame (wpE (defs₀ (F := F)) 𝒱₀ (c : Thread nD τ) none) Set.univ (k' ⟨⟩) Q)
        -∗ wp frame (wpE (defs₀ (F := F)) 𝒱₀ (c : Thread nD τ) none) Set.univ
            (.op (.load xM (Rect.unit (s := S1024x128) ![r, 0] ![h, 128] inbx).toLoadRect hl₁) fun v =>
              .op (.load wM (Rect.unit (s := S128x1024) ![0, 0] S128x1024.size inbw).toLoadRect hl₂) fun w =>
              .op (.load oM (Rect.unit (s := S1024x1024) ![r, 0] ![h, 1024] inbo).toLoadRect hl₃) fun _ =>
              .op (.store oM (Rect.unit (s := S1024x1024) ![r, 0] ![h, 1024] inbo) (pay v w) Finset.univ hx hm) k') Q) := by
  unfold xPt wPt
  iintro ⟨Hx, Hw, Ho⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  ihave Ho := (Entails.of_eq (oS_pt c (inb := inbo) f).symm) $$ Ho
  iapply (wp_load_rect 𝒱₀ (c : Thread nD τ) none Set.univ (m := oM) (Finset.Subset.refl _)) $$ Ho; iintro Ho
  iapply (wp_store 𝒱₀ (c : Thread nD τ) none Set.univ (m := oM) (r := Rect.unit (s := S1024x1024) ![r, 0] ![h, 1024] inbo)
      (Mk := Finset.univ) (S := (oS ![r, 0] h 1024 inbo).view.set) (Finset.Subset.refl _)) $$ Ho; iintro Ho
  iapply Hk
  isplitl [Hx]; · iexact Hx
  isplitl [Hw]; · iexact Hw
  iapply (Entails.of_eq (oS_write c (inb := inbo) hr (Nat.le_refl _) f (part m ρ c)
    (pay ((xM : Memref sig .tc .vmem S1024x128 .f32).view.readAt (Elt F) (Rect.unit (s := S1024x128) ![r, 0] ![h, 128] inbx).toLoadRect (xstg m ρ c))
      ((wM : Memref sig .tc .vmem S128x1024 .f32).view.readAt (Elt F) (Rect.unit (s := S128x1024) ![0, 0] S128x1024.size inbw).toLoadRect (wstg m ρ c))) (by
      rw [x_read m ρ c hr, show (wM : Memref sig .tc .vmem S128x1024 .f32).view.readAt (Elt F) (Rect.unit (s := S128x1024) ![0, 0] S128x1024.size inbw).toLoadRect (wstg m ρ c) = wstg m ρ c
        from Memref.readAt_unit_zero (Elt F) cc0_stg1_0 (funext fun a => by fin_cases a <;> rfl) _ _]
      exact hpay)))
  iapply (Entails.of_eq (oS_pt c (inb := inbo) _)); iexact Ho

theorem pay1_eq : k0_pay1 (xrow m ρ c 0 344 (by decide)) (wstg m ρ c) = win (part m ρ c) 0 0 344 1024 (by decide) (Nat.le_refl _) := by
  funext j
  have hj : (j 0).val < 344 := (j 0).2
  unfold win part
  rw [dif_pos (show ((ix2 (⟨0 + (j 0).val, _⟩ : Fin 1024) (⟨0 + (j 1).val, _⟩ : Fin 1024)) 0).val < 344 by show 0 + (j 0).val < 344; omega)]
  congr 1
  funext a
  apply Fin.ext
  match a with
  | ⟨0, _⟩ => show (j 0).val = 0 + (j 0).val; omega
  | ⟨1, _⟩ => show (j 1).val = 0 + (j 1).val; omega
theorem pay2_eq : k0_pay2 (xrow m ρ c 344 344 (by decide)) (wstg m ρ c) = win (part m ρ c) 344 0 344 1024 (by decide) (Nat.le_refl _) := by
  funext j
  have hj : (j 0).val < 344 := (j 0).2
  unfold win part
  rw [dif_neg (show ¬ ((ix2 (⟨344 + (j 0).val, _⟩ : Fin 1024) (⟨0 + (j 1).val, _⟩ : Fin 1024)) 0).val < 344 by show ¬ 344 + (j 0).val < 344; omega),
    dif_pos (show ((ix2 (⟨344 + (j 0).val, _⟩ : Fin 1024) (⟨0 + (j 1).val, _⟩ : Fin 1024)) 0).val < 688 by show 344 + (j 0).val < 688; omega)]
  congr 1
  funext a
  apply Fin.ext
  match a with
  | ⟨0, _⟩ => show (j 0).val = 344 + (j 0).val - 344; omega
  | ⟨1, _⟩ => show (j 1).val = 0 + (j 1).val; omega
theorem pay3_eq : k0_pay3 (xrow m ρ c 688 336 (by decide)) (wstg m ρ c) = win (part m ρ c) 688 0 336 1024 (by decide) (Nat.le_refl _) := by
  funext j
  unfold win part
  rw [dif_neg (show ¬ ((ix2 (⟨688 + (j 0).val, _⟩ : Fin 1024) (⟨0 + (j 1).val, _⟩ : Fin 1024)) 0).val < 344 by show ¬ 688 + (j 0).val < 344; omega),
    dif_neg (show ¬ ((ix2 (⟨688 + (j 0).val, _⟩ : Fin 1024) (⟨0 + (j 1).val, _⟩ : Fin 1024)) 0).val < 688 by show ¬ 688 + (j 0).val < 688; omega)]
  congr 1
  funext a
  apply Fin.ext
  match a with
  | ⟨0, _⟩ => show (j 0).val = 688 + (j 0).val - 688; omega
  | ⟨1, _⟩ => show (j 1).val = 0 + (j 1).val; omega

end Band

/-! ## A strip: what it starts from and what it leaves -/

theorem cast_add {S : Shape} (h : S.ShapeCasts S) (v w : FVec F S .f32) : addf (shapeCast S v h) w = addf v w := by
  rw [shapeCast_self]

section Strip
variable (c : Dev nD) (ci : Fin 6)

/-- The neighbours' landing regions of a strip's first three slots. -/
def arr : sProp 𝕄 := iprop(cAny (pr c ci 0) ci 0 ∗ cAny (pr c ci 1) ci 1 ∗ cAny (pr c ci 2) ci 2)

theorem P0_intro : iprop(strip c ci (part m ρ c) ∗ arr c ci ∗ bigSep Finset.univ fun k => tk c ci k) ⊢ P0 m ρ c ci := by
  unfold arr P0
  rw [b5]
  iintro ⟨Hs, ⟨H0, H1, H2⟩, Ht⟩
  isplitl [Hs]; · iexact Hs
  isplitl [H0]; · iexact H0
  isplitl [H1]; · iexact H1
  isplitl [H2]; · iexact H2
  iexact Ht

theorem P6_elim : P6 m ρ c ci ⊢ iprop(strip c ci (full m ρ (chain ci).band c) ∗ scr c ci ∗ bigSep Finset.univ fun k => dn c ci k) := by
  unfold P6
  rw [b5]
  iintro ⟨Hs, H, Hd⟩
  isplitl [Hs]; · iexact Hs
  isplitl [H]; · iapply (scr_join ci c); iexact H
  iexact Hd

end Strip

omit [FloatOps F] in
/-- What the six scratch buffers hand to the three neighbours; -/
theorem give_out (c : Dev nD) : (bigSep Finset.univ fun ci => (scr c ci : sProp 𝕄)) ⊢ bigSep Finset.univ fun a : Fin 3 => barPay (nb a c) a := by
  have e : (bigSep Finset.univ fun a : Fin 3 => (barPay (nb a c) a : sProp 𝕄))
      = bigSep Finset.univ fun ci => bigSep Finset.univ fun s => cAny c ci s := by
    rw [← regroup fun ci _ s => cAny c ci s]
    refine bigSep_congr fun a _ => ?_
    unfold barPay
    rw [nb_nb]
  rw [e]
  exact bigSep_mono fun ci _ => scr_split ci c

omit [FloatOps F] in
/-- what they hand back. -/
theorem take_in (c : Dev nD) : (bigSep Finset.univ fun a : Fin 3 => (barPay c a : sProp 𝕄)) = bigSep Finset.univ fun ci => arr c ci := by
  unfold barPay
  rw [regroup fun ci a s => cAny (nb a c) ci s]
  refine bigSep_congr fun ci _ => ?_
  rw [b3]; rfl

/-! ## The body -/

/-- The result: in each band the sum along that band's order of axes. -/
def outv (c : Dev nD) : OutC F := fun i =>
  if (i 0).val < 344 then full m ρ 0 c i else if (i 0).val < 688 then full m ρ 1 c i else full m ρ 2 c i

omit [FloatOps F] in
/-- A band's rows are its two strips'; -/
theorem strips01 (c : Dev nD) (f : OutC F) : oPt c (reg 0 344 0 1024) f = iprop(strip c 0 f ∗ strip c 1 f) := rows_union c 0 168 176 f
omit [FloatOps F] in
theorem strips23 (c : Dev nD) (f : OutC F) : oPt c (reg 344 344 0 1024) f = iprop(strip c 2 f ∗ strip c 3 f) := rows_union c 344 168 176 f
omit [FloatOps F] in
theorem strips45 (c : Dev nD) (f : OutC F) : oPt c (reg 688 336 0 1024) f = iprop(strip c 4 f ∗ strip c 5 f) := rows_union c 688 168 168 f

omit [FloatOps F] in
/-- the output's rows are the three bands'. -/
theorem bands (c : Dev nD) (f : OutC F) : oPt c (reg 0 1024 0 1024) f
    = iprop(oPt c (reg 0 344 0 1024) f ∗ oPt c (reg 344 344 0 1024) f ∗ oPt c (reg 688 336 0 1024) f) := by
  rw [rows_union c 0 344 680, rows_union c (0 + 344) 344 336]

omit [FloatOps F] in
/-- The output's rows, strip by strip. -/
theorem rows_strips (c : Dev nD) (f : OutC F) :
    oPt c (reg 0 1024 0 1024) f = iprop((strip c 0 f ∗ strip c 1 f) ∗ (strip c 2 f ∗ strip c 3 f) ∗ (strip c 4 f ∗ strip c 5 f)) := by
  rw [bands, strips01, strips23, strips45]

theorem strips_out (c : Dev nD) (ci : Fin 6) : strip c ci (full m ρ (chain ci).band c) = strip c ci (outv m ρ c) := by
  refine oPt_congr c fun i hi => ?_
  rw [mem_reg] at hi
  unfold outv
  fin_cases ci <;> dsimp only [chain] at hi ⊢ <;> first
    | rw [if_pos (by omega)]
    | rw [if_neg (by omega), if_pos (by omega)]
    | rw [if_neg (by omega), if_neg (by omega)]

omit [FloatOps F] in
/-- The next transfer to make, apart. -/
theorem ow_next (c : Dev nD) (n : ℕ) (p : Fin 6 × Fin 5) (h : sends.drop n = p :: sends.drop (n + 1)) :
    (ow c (sends.drop n) : sProp 𝕄) ⊢ ow c (p :: sends.drop (n + 1)) := Entails.of_eq (by rw [h])

/-- What the body starts from, beside what is persistent; -/
def bodyIn (c : Dev nD) : sProp 𝕄 :=
  iprop((bigSep Finset.univ fun ci => bigSep Finset.univ fun k => tk c ci k)
    ∗ ((bigSep Finset.univ fun a : Fin 3 => dutyTok ER (barCell (nb a c)) 0 a) ∗ atPos ER (barCell c) 0 ∅ 0 ∗ cred (tallyAt (barCell c) () 3))
    ∗ (bigSep Finset.univ fun ci => scr c ci) ∗ (∃ W, owes (c : Thread nD τ) (O₀ c) W)
    ∗ xPt m ρ c ∗ wPt m ρ c ∗ ∃ f, oPt c (reg 0 1024 0 1024) f)
/-- what it leaves. -/
def bodyOut (c : Dev nD) : sProp 𝕄 :=
  iprop((bigSep Finset.univ fun ci => scr c ci) ∗ (bigSep Finset.univ fun ci => bigSep Finset.univ fun k => dn c ci k) ∗ semVal (barCell c) 0
    ∗ ow c [] ∗ xPt m ρ c ∗ wPt m ρ c ∗ oPt c (reg 0 1024 0 1024) (outv m ρ c))

set_option maxHeartbeats 4000000 in
set_option maxRecDepth 65536 in
/-- The body, one lemma per slot, in program order. -/
theorem body_runs (K : Dev nD × Option TI → ℕ) (c : Dev nD) (Kt : PUnit → sProp 𝕄) :
    iprop(amb m ρ K ∗ bodyIn m ρ c ∗ (bodyOut m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7) Kt := by
  simp only [cc0_body_eq_skeleton]; unfold cc0_body_skel
  simp only [k0_part30_eq_skeleton]; unfold k0_part30_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel
    k0_part17_skel k0_part18_skel k0_part19_skel k0_part20_skel k0_part21_skel k0_part22_skel k0_part23_skel k0_part24_skel
    k0_part25_skel k0_part26_skel k0_part27_skel k0_part28_skel k0_part29_skel
  simp only [semSignalWord, semWaitWord, Prog.lift, Prog.bind_op, Prog.bind_ret, Prog.pure_eq_ret, wp_deviceId]
  unfold bodyIn
  rw [b3, b6]
  iintro ⟨#HA, ⟨⟨T0, T1, T2, T3, T4, T5⟩, ⟨⟨B0, B1, B2⟩, Hat, Hcr⟩, Hscr, ⟨%W, Ho⟩, Hx, Hw, ⟨%f, Hf⟩⟩, Hk⟩
  ihave Hp := (give_out (F := F) c) $$ Hscr
  ihave Hp := (Entails.of_eq (b3 _)) $$ Hp
  icases Hp with ⟨Q0, Q1, Q2⟩
  unfold O₀
  iapply (signal_bar m ρ K c 0 (O₁ c) W (dev_1 c) (by decide)) $$ [Ho B0 Q0]
  · isplitr; · iexact HA
    isplitl [Ho]; · iexact Ho
    isplitl [B0] <;> iassumption
  iintro Ho
  unfold O₁
  iapply (signal_bar m ρ K c 1 (O₂ c) W (dev_2 c) (by decide)) $$ [Ho B1 Q1]
  · isplitr; · iexact HA
    isplitl [Ho]; · iexact Ho
    isplitl [B1] <;> iassumption
  iintro Ho
  unfold O₂
  iapply (signal_bar m ρ K c 2 (owedL c sends) W (dev_3 c) (by decide)) $$ [Ho B2 Q2]
  · isplitr; · iexact HA
    isplitl [Ho]; · iexact Ho
    isplitl [B2] <;> iassumption
  iintro Ho
  iapply (wait_bar m ρ K c W (by decide)) $$ [Ho Hat Hcr]
  · isplitr; · iexact HA
    isplitl [Ho]; · iexact Ho
    isplitl [Hat] <;> iassumption
  iintro ⟨Ho, HzB, Hp⟩
  ihave Ho := (Entails.of_eq (show ow c sends = ow c (sends.drop 0) from rfl)) $$ Ho
  ihave Hp := (Entails.of_eq (take_in (F := F) c)) $$ Hp
  ihave Hp := (Entails.of_eq (b6 _)) $$ Hp
  icases Hp with ⟨A0, A1, A2, A3, A4, A5⟩
  ihave Hf := (Entails.of_eq (bands c f)) $$ Hf
  icases Hf with ⟨F0, F1, F2⟩
  -- band 0
  iapply (band_store m ρ c 0 344 (by decide) (pay1_eq m ρ c) f) $$ [Hx Hw F0]
  · isplitl [Hx]; · iexact Hx
    isplitl [Hw] <;> iassumption
  iintro ⟨Hx, Hw, F0⟩
  ihave F0 := (Entails.of_eq (strips01 c (part m ρ c))) $$ F0
  icases F0 with ⟨E0, E1⟩
  ihave H0 := (P0_intro m ρ c 0) $$ [E0 A0 T0]
  · isplitl [E0]; · iexact E0
    isplitl [A0] <;> iassumption
  iapply (step0 m ρ K c 0 (sends.drop 1) (off_1 c) (dev_4 c) rfl rfl) $$ [H0 Ho]
  · isplitr; · iexact HA
    isplitl [H0]; · iexact H0
    iapply (ow_next (F := F) c 0 (0, 0) rfl); iexact Ho
  iintro ⟨H0, Ho⟩
  ihave H1 := (P0_intro m ρ c 1) $$ [E1 A1 T1]
  · isplitl [E1]; · iexact E1
    isplitl [A1] <;> iassumption
  iapply (step0 m ρ K c 1 (sends.drop 2) (off_2 c) (dev_5 c) rfl rfl) $$ [H1 Ho]
  · isplitr; · iexact HA
    isplitl [H1]; · iexact H1
    iapply (ow_next (F := F) c 1 (1, 0) rfl); iexact Ho
  iintro ⟨H1, Ho⟩
  -- band 1
  iapply (band_store m ρ c 344 344 (by decide) (pay2_eq m ρ c) f) $$ [Hx Hw F1]
  · isplitl [Hx]; · iexact Hx
    isplitl [Hw] <;> iassumption
  iintro ⟨Hx, Hw, F1⟩
  ihave F1 := (Entails.of_eq (strips23 c (part m ρ c))) $$ F1
  icases F1 with ⟨E0, E1⟩
  ihave H2 := (P0_intro m ρ c 2) $$ [E0 A2 T2]
  · isplitl [E0]; · iexact E0
    isplitl [A2] <;> iassumption
  iapply (step0 m ρ K c 2 (sends.drop 3) (off_3 c) (dev_6 c) rfl rfl) $$ [H2 Ho]
  · isplitr; · iexact HA
    isplitl [H2]; · iexact H2
    iapply (ow_next (F := F) c 2 (2, 0) rfl); iexact Ho
  iintro ⟨H2, Ho⟩
  ihave H3 := (P0_intro m ρ c 3) $$ [E1 A3 T3]
  · isplitl [E1]; · iexact E1
    isplitl [A3] <;> iassumption
  iapply (step0 m ρ K c 3 (sends.drop 4) (off_4 c) (dev_7 c) rfl rfl) $$ [H3 Ho]
  · isplitr; · iexact HA
    isplitl [H3]; · iexact H3
    iapply (ow_next (F := F) c 3 (3, 0) rfl); iexact Ho
  iintro ⟨H3, Ho⟩
  -- band 2
  iapply (band_store m ρ c 688 336 (by decide) (pay3_eq m ρ c) f) $$ [Hx Hw F2]
  · isplitl [Hx]; · iexact Hx
    isplitl [Hw] <;> iassumption
  iintro ⟨Hx, Hw, F2⟩
  ihave F2 := (Entails.of_eq (strips45 c (part m ρ c))) $$ F2
  icases F2 with ⟨E0, E1⟩
  ihave H4 := (P0_intro m ρ c 4) $$ [E0 A4 T4]
  · isplitl [E0]; · iexact E0
    isplitl [A4] <;> iassumption
  iapply (step0 m ρ K c 4 (sends.drop 5) (off_5 c) (dev_8 c) rfl rfl) $$ [H4 Ho]
  · isplitr; · iexact HA
    isplitl [H4]; · iexact H4
    iapply (ow_next (F := F) c 4 (4, 0) rfl); iexact Ho
  iintro ⟨H4, Ho⟩
  ihave H5 := (P0_intro m ρ c 5) $$ [E1 A5 T5]
  · isplitl [E1]; · iexact E1
    isplitl [A5] <;> iassumption
  iapply (step0 m ρ K c 5 (sends.drop 6) (off_6 c) (dev_9 c) rfl rfl) $$ [H5 Ho]
  · isplitr; · iexact HA
    isplitl [H5]; · iexact H5
    iapply (ow_next (F := F) c 5 (5, 0) rfl); iexact Ho
  iintro ⟨H5, Ho⟩
  -- slot 0 done, slot 1 begun
  iapply (step1 m ρ K c 0 (sends.drop 7) (by decide) rfl rfl (off_7 c) (cast_add _) (off_8 c) (dev_10 c) rfl rfl) $$ [H0 Ho]
  · isplitr; · iexact HA
    isplitl [H0]; · iexact H0
    iapply (ow_next (F := F) c 6 (0, 1) rfl); iexact Ho
  iintro ⟨H0, Ho⟩
  iapply (step1 m ρ K c 1 (sends.drop 8) (by decide) rfl rfl (off_9 c) (cast_add _) (off_10 c) (dev_11 c) rfl rfl) $$ [H1 Ho]
  · isplitr; · iexact HA
    isplitl [H1]; · iexact H1
    iapply (ow_next (F := F) c 7 (1, 1) rfl); iexact Ho
  iintro ⟨H1, Ho⟩
  iapply (step1 m ρ K c 2 (sends.drop 9) (by decide) rfl rfl (off_11 c) (cast_add _) (off_12 c) (dev_12 c) rfl rfl) $$ [H2 Ho]
  · isplitr; · iexact HA
    isplitl [H2]; · iexact H2
    iapply (ow_next (F := F) c 8 (2, 1) rfl); iexact Ho
  iintro ⟨H2, Ho⟩
  iapply (step1 m ρ K c 3 (sends.drop 10) (by decide) rfl rfl (off_13 c) (cast_add _) (off_14 c) (dev_13 c) rfl rfl) $$ [H3 Ho]
  · isplitr; · iexact HA
    isplitl [H3]; · iexact H3
    iapply (ow_next (F := F) c 9 (3, 1) rfl); iexact Ho
  iintro ⟨H3, Ho⟩
  iapply (step1 m ρ K c 4 (sends.drop 11) (by decide) rfl rfl (off_15 c) (cast_add _) (off_16 c) (dev_14 c) rfl rfl) $$ [H4 Ho]
  · isplitr; · iexact HA
    isplitl [H4]; · iexact H4
    iapply (ow_next (F := F) c 10 (4, 1) rfl); iexact Ho
  iintro ⟨H4, Ho⟩
  iapply (step1 m ρ K c 5 (sends.drop 12) (by decide) rfl rfl (off_17 c) (cast_add _) (off_18 c) (dev_15 c) rfl rfl) $$ [H5 Ho]
  · isplitr; · iexact HA
    isplitl [H5]; · iexact H5
    iapply (ow_next (F := F) c 11 (5, 1) rfl); iexact Ho
  iintro ⟨H5, Ho⟩
  -- slot 1 done, slot 2 begun
  iapply (step2 m ρ K c 0 (sends.drop 13) (by decide) rfl rfl (off_19 c) (cast_add _) (off_20 c) (dev_16 c) rfl rfl) $$ [H0 Ho]
  · isplitr; · iexact HA
    isplitl [H0]; · iexact H0
    iapply (ow_next (F := F) c 12 (0, 2) rfl); iexact Ho
  iintro ⟨H0, Ho⟩
  iapply (step2 m ρ K c 1 (sends.drop 14) (by decide) rfl rfl (off_21 c) (cast_add _) (off_22 c) (dev_17 c) rfl rfl) $$ [H1 Ho]
  · isplitr; · iexact HA
    isplitl [H1]; · iexact H1
    iapply (ow_next (F := F) c 13 (1, 2) rfl); iexact Ho
  iintro ⟨H1, Ho⟩
  iapply (step2 m ρ K c 2 (sends.drop 15) (by decide) rfl rfl (off_23 c) (cast_add _) (off_24 c) (dev_18 c) rfl rfl) $$ [H2 Ho]
  · isplitr; · iexact HA
    isplitl [H2]; · iexact H2
    iapply (ow_next (F := F) c 14 (2, 2) rfl); iexact Ho
  iintro ⟨H2, Ho⟩
  iapply (step2 m ρ K c 3 (sends.drop 16) (by decide) rfl rfl (off_25 c) (cast_add _) (off_26 c) (dev_19 c) rfl rfl) $$ [H3 Ho]
  · isplitr; · iexact HA
    isplitl [H3]; · iexact H3
    iapply (ow_next (F := F) c 15 (3, 2) rfl); iexact Ho
  iintro ⟨H3, Ho⟩
  iapply (step2 m ρ K c 4 (sends.drop 17) (by decide) rfl rfl (off_27 c) (cast_add _) (off_28 c) (dev_20 c) rfl rfl) $$ [H4 Ho]
  · isplitr; · iexact HA
    isplitl [H4]; · iexact H4
    iapply (ow_next (F := F) c 16 (4, 2) rfl); iexact Ho
  iintro ⟨H4, Ho⟩
  iapply (step2 m ρ K c 5 (sends.drop 18) (by decide) rfl rfl (off_29 c) (cast_add _) (off_30 c) (dev_21 c) rfl rfl) $$ [H5 Ho]
  · isplitr; · iexact HA
    isplitl [H5]; · iexact H5
    iapply (ow_next (F := F) c 17 (5, 2) rfl); iexact Ho
  iintro ⟨H5, Ho⟩
  -- slot 2 done, slot 3 begun
  iapply (step3 m ρ K c 0 (sends.drop 19) (by decide) rfl rfl (off_19 c) (cast_add _) (off_20 c) (dev_22 c) rfl rfl) $$ [H0 Ho]
  · isplitr; · iexact HA
    isplitl [H0]; · iexact H0
    iapply (ow_next (F := F) c 18 (0, 3) rfl); iexact Ho
  iintro ⟨H0, Ho⟩
  iapply (step3 m ρ K c 1 (sends.drop 20) (by decide) rfl rfl (off_21 c) (cast_add _) (off_22 c) (dev_23 c) rfl rfl) $$ [H1 Ho]
  · isplitr; · iexact HA
    isplitl [H1]; · iexact H1
    iapply (ow_next (F := F) c 19 (1, 3) rfl); iexact Ho
  iintro ⟨H1, Ho⟩
  iapply (step3 m ρ K c 2 (sends.drop 21) (by decide) rfl rfl (off_23 c) (cast_add _) (off_24 c) (dev_24 c) rfl rfl) $$ [H2 Ho]
  · isplitr; · iexact HA
    isplitl [H2]; · iexact H2
    iapply (ow_next (F := F) c 20 (2, 3) rfl); iexact Ho
  iintro ⟨H2, Ho⟩
  iapply (step3 m ρ K c 3 (sends.drop 22) (by decide) rfl rfl (off_25 c) (cast_add _) (off_26 c) (dev_25 c) rfl rfl) $$ [H3 Ho]
  · isplitr; · iexact HA
    isplitl [H3]; · iexact H3
    iapply (ow_next (F := F) c 21 (3, 3) rfl); iexact Ho
  iintro ⟨H3, Ho⟩
  iapply (step3 m ρ K c 4 (sends.drop 23) (by decide) rfl rfl (off_27 c) (cast_add _) (off_28 c) (dev_26 c) rfl rfl) $$ [H4 Ho]
  · isplitr; · iexact HA
    isplitl [H4]; · iexact H4
    iapply (ow_next (F := F) c 22 (4, 3) rfl); iexact Ho
  iintro ⟨H4, Ho⟩
  iapply (step3 m ρ K c 5 (sends.drop 24) (by decide) rfl rfl (off_29 c) (cast_add _) (off_30 c) (dev_27 c) rfl rfl) $$ [H5 Ho]
  · isplitr; · iexact HA
    isplitl [H5]; · iexact H5
    iapply (ow_next (F := F) c 23 (5, 3) rfl); iexact Ho
  iintro ⟨H5, Ho⟩
  -- slot 3 done, slot 4 begun
  iapply (step4 m ρ K c 0 (sends.drop 25) (by decide) rfl rfl (off_31 c) (dev_28 c) rfl rfl) $$ [H0 Ho]
  · isplitr; · iexact HA
    isplitl [H0]; · iexact H0
    iapply (ow_next (F := F) c 24 (0, 4) rfl); iexact Ho
  iintro ⟨H0, Ho⟩
  iapply (step4 m ρ K c 1 (sends.drop 26) (by decide) rfl rfl (off_32 c) (dev_29 c) rfl rfl) $$ [H1 Ho]
  · isplitr; · iexact HA
    isplitl [H1]; · iexact H1
    iapply (ow_next (F := F) c 25 (1, 4) rfl); iexact Ho
  iintro ⟨H1, Ho⟩
  iapply (step4 m ρ K c 2 (sends.drop 27) (by decide) rfl rfl (off_33 c) (dev_30 c) rfl rfl) $$ [H2 Ho]
  · isplitr; · iexact HA
    isplitl [H2]; · iexact H2
    iapply (ow_next (F := F) c 26 (2, 4) rfl); iexact Ho
  iintro ⟨H2, Ho⟩
  iapply (step4 m ρ K c 3 (sends.drop 28) (by decide) rfl rfl (off_34 c) (dev_31 c) rfl rfl) $$ [H3 Ho]
  · isplitr; · iexact HA
    isplitl [H3]; · iexact H3
    iapply (ow_next (F := F) c 27 (3, 4) rfl); iexact Ho
  iintro ⟨H3, Ho⟩
  iapply (step4 m ρ K c 4 (sends.drop 29) (by decide) rfl rfl (off_35 c) (dev_32 c) rfl rfl) $$ [H4 Ho]
  · isplitr; · iexact HA
    isplitl [H4]; · iexact H4
    iapply (ow_next (F := F) c 28 (4, 4) rfl); iexact Ho
  iintro ⟨H4, Ho⟩
  iapply (step4 m ρ K c 5 (sends.drop 30) (by decide) rfl rfl (off_36 c) (dev_33 c) rfl rfl) $$ [H5 Ho]
  · isplitr; · iexact HA
    isplitl [H5]; · iexact H5
    iapply (ow_next (F := F) c 29 (5, 4) rfl); iexact Ho
  iintro ⟨H5, Ho⟩
  -- slot 4 done
  ihave Ho := (Entails.of_eq (show ow c (sends.drop 30) = ow c [] from rfl)) $$ Ho
  iapply (step5 m ρ K c 0 [] (by decide) rfl rfl) $$ [H0 Ho]
  · isplitr; · iexact HA
    isplitl [H0] <;> iassumption
  iintro ⟨H0, Ho⟩
  iapply (step5 m ρ K c 1 [] (by decide) rfl rfl) $$ [H1 Ho]
  · isplitr; · iexact HA
    isplitl [H1] <;> iassumption
  iintro ⟨H1, Ho⟩
  iapply (step5 m ρ K c 2 [] (by decide) rfl rfl) $$ [H2 Ho]
  · isplitr; · iexact HA
    isplitl [H2] <;> iassumption
  iintro ⟨H2, Ho⟩
  iapply (step5 m ρ K c 3 [] (by decide) rfl rfl) $$ [H3 Ho]
  · isplitr; · iexact HA
    isplitl [H3] <;> iassumption
  iintro ⟨H3, Ho⟩
  iapply (step5 m ρ K c 4 [] (by decide) rfl rfl) $$ [H4 Ho]
  · isplitr; · iexact HA
    isplitl [H4] <;> iassumption
  iintro ⟨H4, Ho⟩
  iapply (step5 m ρ K c 5 [] (by decide) rfl rfl) $$ [H5 Ho]
  · isplitr; · iexact HA
    isplitl [H5] <;> iassumption
  iintro ⟨H5, Ho⟩
  rw [wp_ret]; imodintro
  ihave H0 := (P6_elim m ρ c 0) $$ H0
  icases H0 with ⟨O0, A0, D0⟩
  ihave O0 := (Entails.of_eq (strips_out m ρ c 0)) $$ O0
  ihave H1 := (P6_elim m ρ c 1) $$ H1
  icases H1 with ⟨O1, A1, D1⟩
  ihave O1 := (Entails.of_eq (strips_out m ρ c 1)) $$ O1
  ihave H2 := (P6_elim m ρ c 2) $$ H2
  icases H2 with ⟨O2, A2, D2⟩
  ihave O2 := (Entails.of_eq (strips_out m ρ c 2)) $$ O2
  ihave H3 := (P6_elim m ρ c 3) $$ H3
  icases H3 with ⟨O3, A3, D3⟩
  ihave O3 := (Entails.of_eq (strips_out m ρ c 3)) $$ O3
  ihave H4 := (P6_elim m ρ c 4) $$ H4
  icases H4 with ⟨O4, A4, D4⟩
  ihave O4 := (Entails.of_eq (strips_out m ρ c 4)) $$ O4
  ihave H5 := (P6_elim m ρ c 5) $$ H5
  icases H5 with ⟨O5, A5, D5⟩
  ihave O5 := (Entails.of_eq (strips_out m ρ c 5)) $$ O5
  iapply Hk
  unfold bodyOut
  rw [b6, b6, rows_strips]
  isplitl [A0 A1 A2 A3 A4 A5]
  · isplitl [A0]; · iexact A0
    isplitl [A1]; · iexact A1
    isplitl [A2]; · iexact A2
    isplitl [A3]; · iexact A3
    isplitl [A4] <;> iassumption
  isplitl [D0 D1 D2 D3 D4 D5]
  · isplitl [D0]; · iexact D0
    isplitl [D1]; · iexact D1
    isplitl [D2]; · iexact D2
    isplitl [D3]; · iexact D3
    isplitl [D4] <;> iassumption
  isplitl [HzB]; · iexact HzB
  isplitl [Ho]; · iexact Ho
  isplitl [Hx]; · iexact Hx
  isplitl [Hw]; · iexact Hw
  isplitl [O0 O1]
  · isplitl [O0] <;> iassumption
  isplitl [O2 O3]
  · isplitl [O2] <;> iassumption
  isplitl [O4] <;> iassumption

end AllReduce.KernelIdeal
-- ==== Proof.KernelIdealLaunch.lean ====
/-
The launch: the cells' invariants and duty tokens dealt to the devices, the credit each is owed, the body's obligation,
and the run of the whole mesh.
-/
module
public import proofs.«01_k».proof.Proof.KernelIdealBody
public import proofs.«01_k».proof.Proof.Gen.KernelIdeal.Launch
public import Idealize.ShloMosaic.Lib.Pipeline.Launch
public import Idealize.ShloMosaic.Lib.Pipeline.CollectiveSegs

@[expose] public section

noncomputable section

namespace AllReduce.KernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the transfers' semaphores -/

omit [FloatOps F] in
/-- Over a device's cells: the barrier's, then the transfers'. -/
theorem cells_eq (Φ : Option TI → sProp 𝕄) : bigSep Finset.univ Φ = iprop(Φ none ∗ bigSep Finset.univ fun t => Φ (some t)) := by
  have h (A B : sProp 𝕄) : iprop(A ∗ B) = iprop(B ∗ A) := Idealize.SL.BI.sep_comm.antisymm Idealize.SL.BI.sep_comm
  rw [h, bigSep_univ_equiv (Equiv.optionEquivSumPUnit.{0, 0} TI).symm Φ, bigSep_univ_sum, bigSep_univ_of_subsingleton PUnit.unit]
  rfl

omit [FloatOps F] in
/-- Over the transfers' semaphores: the senders', then the receivers', strip by strip. -/
theorem ti_eq (Φ : TI → sProp 𝕄) : bigSep Finset.univ Φ
    = iprop((bigSep Finset.univ fun ci => bigSep Finset.univ fun k => Φ (0, ci, k)) ∗ bigSep Finset.univ fun ci => bigSep Finset.univ fun k => Φ (1, ci, k)) := by
  rw [bigSep_univ_prod, bigSep_fin_two, bigSep_univ_prod, bigSep_univ_prod]
  rfl

omit [FloatOps F] in
theorem slots_sep (Φ Ψ : Fin 6 → Fin 5 → sProp 𝕄) :
    (bigSep Finset.univ fun ci => bigSep Finset.univ fun k => iprop(Φ ci k ∗ Ψ ci k))
      = iprop((bigSep Finset.univ fun ci => bigSep Finset.univ fun k => Φ ci k) ∗ bigSep Finset.univ fun ci => bigSep Finset.univ fun k => Ψ ci k) := by
  rw [← bigSep_sep']
  exact bigSep_congr fun ci _ => bigSep_sep' _ _ _

/-! ## What a device starts from -/

/-- The tokens of the duties a device pays. -/
def payToks (c : Dev nD) : sProp 𝕄 :=
  iprop((bigSep Finset.univ fun a : Fin 3 => dutyTok ER (barCell (nb a c)) 0 a)
    ∗ (bigSep Finset.univ fun ci => bigSep Finset.univ fun k => dutyTok ER (sCell c ci k) 0 0)
    ∗ bigSep Finset.univ fun ci => bigSep Finset.univ fun k => dutyTok ER (rCell (pr c ci k) ci k) 0 0)
def linear (c : Dev nD) : sProp 𝕄 := iprop((bigSep Finset.univ fun o : Option TI => atPos ER (kcell (c, o)) 0 ∅ 0) ∗ payToks c)
/-- The credit it is owed: three units at its barrier, every arrival's at its own semaphore. -/
def credits (c : Dev nD) : sProp 𝕄 :=
  iprop(cred (tallyAt (barCell c) () 3) ∗ bigSep Finset.univ fun ci => bigSep Finset.univ fun k => cred (tallyAt (rCell c ci k) () (cr ci k)))
def G' (c : Dev nD) : sProp 𝕄 := iprop(∃ K, records m ρ K ∗ linear c)
def start (c : Dev nD) : sProp 𝕄 := iprop(G' m ρ c ∗ credits c ∗ levAts L lv)

def Φ₀ (c : Dev nD) : sProp 𝕄 := iprop(start m ρ c ∗ bigSep Finset.univ fun ci => scr c ci)
def Φ₁ (c : Dev nD) : sProp 𝕄 :=
  iprop((bigSep Finset.univ fun ci => scr c ci) ∗ (bigSep Finset.univ fun ci => bigSep Finset.univ fun k => dn c ci k) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outv m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The slots' tokens, positions and credit, and the barrier's. -/
theorem linear_slots (c : Dev nD) : iprop(linear c ∗ credits c)
    ⊢ (iprop((bigSep Finset.univ fun ci => bigSep Finset.univ fun k => tk c ci k)
      ∗ ((bigSep Finset.univ fun a : Fin 3 => dutyTok ER (barCell (nb a c)) 0 a) ∗ atPos ER (barCell c) 0 ∅ 0 ∗ cred (tallyAt (barCell c) () 3))) : sProp 𝕄) := by
  unfold linear payToks credits tk
  rw [cells_eq, ti_eq, slots_sep, slots_sep, slots_sep, slots_sep]
  iintro ⟨⟨⟨HaB, HaS, HaR⟩, HtB, HtS, HtR⟩, HcB, HcR⟩
  isplitr [HaB HtB HcB]
  · isplitl [HtS]; · iexact HtS
    isplitl [HtR]; · iexact HtR
    isplitl [HaS]; · iexact HaS
    isplitl [HaR] <;> iassumption
  isplitl [HtB]; · iexact HtB
  isplitl [HaB] <;> iassumption

/-! ## The body's obligation -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem reg_univ : reg 0 1024 0 1024 = Finset.univ := by
  ext i
  have h0 : (i 0).val < 1024 := (i 0).2
  have h1 : (i 1).val < 1024 := (i 1).2
  rw [mem_reg]
  exact ⟨fun _ => Finset.mem_univ _, fun _ => ⟨⟨Nat.zero_le _, by omega⟩, Nat.zero_le _, by omega⟩⟩

omit [FloatOps F] in
theorem out_univ (c : Dev nD) (f : OutC F) : oPt c (reg 0 1024 0 1024) f = (((c : Thread nD τ).loc cc0_stg2_0) ↦{fullShare} f : sProp 𝕄) := by
  unfold oPt; rw [reg_univ]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def obPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def obPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (outv m ρ c))

theorem obPre_in (c : Dev nD) : obPre m ρ c ⊢ iprop(∃ K, amb m ρ K ∗ bodyIn m ρ c) := by
  unfold obPre Φ₀ start G' amb bodyIn xPt wPt Dat.owesAt Pipeline.owesWithin
  rw [show (dats m ρ 0 c).owed t₀.castSucc = O₀ c from rfl]
  iintro ⟨⟨⟨⟨%K, HR, HL⟩, Hc, Hlev⟩, Hs⟩, ⟨%W, -, Ho⟩, ⟨%d0, %g0, %h0, Hx⟩, ⟨%d1, %g1, %h1, Hw⟩, ⟨%d2, %g2, -, Hf⟩⟩
  have hx : g0 = xstg m ρ c := by rw [h0]; unfold Dat.before; rw [if_pos (fetch0_0 t₀)]; rfl
  have hw : g1 = wstg m ρ c := by rw [h1]; unfold Dat.before; rw [if_pos (fetch0_1 t₀)]; rfl
  subst hx hw
  iexists K
  isplitl [HR Hlev]
  · isplitl [HR] <;> iassumption
  ihave H := (linear_slots c) $$ [HL Hc]
  · isplitl [HL] <;> iassumption
  icases H with ⟨Ht, Hb⟩
  isplitl [Ht]; · iexact Ht
  isplitl [Hb]; · iexact Hb
  isplitl [Hs]; · iexact Hs
  isplitl [Ho]; · iexists W; iexact Ho
  isplitl [Hx]; · iexact Hx
  isplitl [Hw]; · iexact Hw
  iexists g2
  rw [out_univ]; iexact Hf

theorem obPost_out (c : Dev nD) : bodyOut m ρ c ⊢ obPost m ρ c := by
  unfold obPost Φ₁ bodyOut xPt wPt ow Dat.owesAt Pipeline.owesWithin
  rw [show (dats m ρ 0 c).owed t₀.succ = owedL c [] from rfl, out_univ]
  iintro ⟨Hs, Hd, Hz, ⟨%W, Ho⟩, Hx, Hw, Hf⟩
  isplitl [Hs Hd Hz]
  · isplitl [Hs]; · iexact Hs
    isplitl [Hd] <;> iassumption
  isplitl [Ho]
  · iexists W
    isplitr; · ipureintro; exact fun _ _ => Or.inl trivial
    iexact Ho
  isplitl [Hx]
  · iexists _; isplitr; · (ipureintro; rfl)
    iexact Hx
  isplitl [Hw]
  · iexists _; isplitr; · (ipureintro; rfl)
    iexact Hw
  iexists _; isplitr; · (ipureintro; rfl)
  iexact Hf

set_option maxRecDepth 65536 in
theorem body_obligation (c : Dev nD) : BodyObligation (dats (F := F) m ρ 0 c) (defs₀ (F := F)) 𝒱₀ () Set.univ := fun t => by
  rw [fin_N t]
  rw [bigSep_W0, bigSep_W0]
  simp only [owns_whole]
  show obPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) cc0_scratch6 cc0_scratch7) (fun _ => obPost m ρ c)
  iintro H
  ihave H := (obPre_in m ρ c) $$ H
  icases H with ⟨%K, HA, HB⟩
  iapply (body_runs m ρ K c fun _ => obPost m ρ c)
  isplitl [HA]; · iexact HA
  isplitl [HB]; · iexact HB
  iintro H; iapply (obPost_out m ρ c); iexact H

/-! ## The cells and their tokens -/

theorem ownSemFacts : Pipeline.OwnSemFacts cfg0.spec osem where
  isScoped := by decide
  inj := osem_inj
  disj := by decide

theorem share_eq (c : Dev nD) (w : Fin cfg0.W) : (dats m ρ 0 c).share w = fullShare := by unfold Dat.share; split <;> rfl

theorem csem_inj : Function.Injective csem := fun o o' h => by
  cases o <;> cases o'
  · rfl
  · cases h
  · cases h
  · exact congrArg some (osem_inj h)
theorem kcell_inj : Function.Injective (kcell : Dev nD × Option TI → GSem nD τ sig) := fun x y h =>
  Prod.ext (congrArg (fun g : GSem nD τ sig => g.1.1) h) (csem_inj (congrArg (fun g : GSem nD τ sig => g.2) h))
def exCells : Finset (GSem nD τ sig) := Finset.univ.map ⟨kcell, kcell_inj⟩

/-- A device's cells' duties: its barrier's three, one for each transfer's semaphore. -/
def tokOf (x : Dev nD × (Fin 3 ⊕ TI)) : GSem nD τ sig × ℕ × Fin 3 := match x.2 with
  | .inl a => (barCell x.1, 0, a) | .inr t => (kcell (x.1, some t), 0, 0)
theorem tokOf_inj : Function.Injective tokOf := by
  rintro ⟨c, j⟩ ⟨c', j'⟩ h
  have hc : c = c' := by
    have := congrArg (fun x : GSem nD τ sig × ℕ × Fin 3 => x.1.1.1) h
    cases j <;> cases j' <;> exact this
  subst hc
  have hs := congrArg (fun x : GSem nD τ sig × ℕ × Fin 3 => x.1.2) h
  have hd := congrArg (fun x : GSem nD τ sig × ℕ × Fin 3 => x.2.2) h
  cases j with
  | inl a => cases j' with
    | inl a' => exact congrArg (fun a => (c, Sum.inl a)) hd
    | inr t' => exact absurd (csem_inj (a₁ := none) (a₂ := some t') hs) (by simp)
  | inr t => cases j' with
    | inl a' => exact absurd (csem_inj (a₁ := some t) (a₂ := none) hs) (by simp)
    | inr t' => exact congrArg (fun t => (c, Sum.inr t)) (osem_inj hs)
def exToks : Finset (GSem nD τ sig × ℕ × Fin 3) := Finset.univ.map ⟨tokOf, tokOf_inj⟩

def u₀ : UU := (initOf (Pipeline.cells cfgs cellOf_inj) (Pipeline.launchToks cfgs cellOf_inj), initOf exCells exToks)

def toks (c : Dev nD) : sProp 𝕄 :=
  iprop((bigSep Finset.univ fun a : Fin 3 => dutyTok ER (barCell c) 0 a) ∗ bigSep Finset.univ fun t : TI => dutyTok ER (kcell (c, some t)) 0 0)
def G (c : Dev nD) : sProp 𝕄 :=
  iprop((bigSep Finset.univ fun o : Option TI => roundState ER (sched m ρ) (kcell (c, o)) 0)
    ∗ (bigSep Finset.univ fun o : Option TI => iprop(atPos ER (kcell (c, o)) 0 ∅ 0 ∗ reached ER (kcell (c, o)) 0)) ∗ toks c)

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun o : Option TI => Φ (kcell (c, o)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum]; rfl
  iintro HX
  imod (Rounds.fund ER (sched m ρ) exCells exToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun t => semVal (kcell (c, some t)) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o => iprop(∃ κ : ℕ, cellInv ER (sched m ρ) κ (kcell (c, o))))
          ∗ (bigSep Finset.univ fun o => iprop(atPos ER (kcell (c, o)) 0 ∅ 0 ∗ reached ER (kcell (c, o)) 0)) ∗ toks c) := by
  unfold G
  rw [ownSems0_eq, unscopedSems0_eq]
  iintro ⟨Hos, Hus, Hst, Hat, Htok⟩
  ihave Hv := (Entails.of_eq (cells_eq fun o => (semVal (kcell (c, o)) 0 : sProp 𝕄)).symm) $$ [Hos Hus]
  · isplitl [Hus] <;> iassumption
  imod (show iprop((bigSep Finset.univ fun o : Option TI => semVal (kcell (c, o)) 0) ∗ bigSep Finset.univ fun o : Option TI => roundState ER (sched m ρ) (kcell (c, o)) 0)
      ⊢ (|={Set.univ}=> bigSep Finset.univ fun o => iprop(∃ κ : ℕ, cellInv ER (sched m ρ) κ (kcell (c, o))) : sProp 𝕄) from by
        rw [← bigSep_sep']
        exact (bigSep_mono fun o _ => (Rounds.body_intro ER (sched m ρ) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over devices and something else, each of its members moved to a neighbour. -/
theorem around {I : Type} [Fintype I] (e : I → Fin 3) (Φ : Dev nD → I → sProp 𝕄) :
    (bigSep Finset.univ fun c => bigSep Finset.univ fun i => Φ c i) = bigSep Finset.univ fun c => bigSep Finset.univ fun i => Φ (nb (e i) c) i := by
  rw [bigSep_univ_comm, bigSep_univ_comm (fun c i => Φ (nb (e i) c) i)]
  exact bigSep_congr fun i _ => bigSep_univ_equiv (nbE (e i)) _

omit [FloatOps F] in
theorem toks_around : (bigSep Finset.univ fun c : Dev nD => (toks c : sProp 𝕄)) = bigSep Finset.univ fun c : Dev nD => payToks c := by
  unfold toks payToks
  simp only [ti_eq, bigSep_sep']
  rw [around (fun a : Fin 3 => a) fun c a => (dutyTok ER (barCell c) 0 a : sProp 𝕄)]
  congr 1
  congr 1
  have h := around (fun p : Fin 6 × Fin 5 => ax (chain p.1).band (back p.2)) fun c p => (dutyTok ER (rCell c p.1 p.2) 0 0 : sProp 𝕄)
  simp only [bigSep_univ_prod] at h
  exact h

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal :
    (bigSep Finset.univ fun c : Dev nD => iprop((bigSep Finset.univ fun o => iprop(∃ κ : ℕ, cellInv ER (sched m ρ) κ (kcell (c, o))))
          ∗ (bigSep Finset.univ fun o => iprop(atPos ER (kcell (c, o)) 0 ∅ 0 ∗ reached ER (kcell (c, o)) 0)) ∗ toks c) : sProp 𝕄)
      ⊢ bigSep Finset.univ (G' m ρ) := by
  rw [bigSep_sep', bigSep_sep', ← bigSep_univ_prod (fun ck : Dev nD × Option TI => iprop(∃ κ : ℕ, cellInv ER (sched m ρ) κ (kcell ck))),
    bigSep_congr (s := Finset.univ) (fun (c : Dev nD) _ => bigSep_sep' Finset.univ (fun o : Option TI => (atPos ER (kcell (c, o)) 0 ∅ 0 : sProp 𝕄)) (fun o => reached ER (kcell (c, o)) 0)),
    bigSep_sep', ← bigSep_univ_prod (fun ck : Dev nD × Option TI => (reached ER (kcell ck) 0 : sProp 𝕄)), toks_around]
  iintro ⟨HI, ⟨Hat, #HR⟩, Htk⟩
  ihave HK := (BI.bigSep_exists_pi Finset.univ (fun (ck : Dev nD × Option TI) (κ : ℕ) => (cellInv ER (sched m ρ) κ (kcell ck) : sProp 𝕄))) $$ HI
  icases HK with ⟨%K, #HI⟩
  iapply (with_persistent (R := records m ρ K) (Φ := fun c => linear c) fun c _ => by
    unfold G'; iintro H; iexists K; iexact H)
  isplitr
  · unfold records; isplitl; · iexact HI
    iexact HR
  unfold linear
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (deal m ρ))

/-! ## The launch's credit -/

theorem cell_eq_iff {a b : Dev nD} {sm : SemLoc sig} : ((a : Thread nD τ), sm) = ((b : Thread nD τ), sm) ↔ a = b :=
  ⟨fun h => congrArg (fun g : GSem nD τ sig => g.1.1) h, fun h => h ▸ rfl⟩
theorem rCell_eq_iff {a b : Dev nD} {p q : Fin 6 × Fin 5} : rCell a p.1 p.2 = rCell b q.1 q.2 ↔ a = b ∧ p = q := by
  constructor
  · intro h
    have h2 : (1, p) = ((1, q) : TI) := osem_inj (congrArg (fun g : GSem nD τ sig => g.2) h)
    exact ⟨congrArg (fun g : GSem nD τ sig => g.1.1) h, congrArg Prod.snd h2⟩
  · rintro ⟨rfl, rfl⟩; rfl

theorem owedL_bar (d c : Dev nD) (l : List (Fin 6 × Fin 5)) : owedL d l (barCell c) () = 0 := by
  induction l with
  | nil => rfl
  | cons p l ih =>
    unfold owedL
    rw [Pi.add_apply, Finsupp.add_apply, ih, tallyAt_apply, if_neg fun h => by cases congrArg (fun g : GSem nD τ sig => g.2) h.1]

theorem owedL_recv (d c : Dev nD) (q : Fin 6 × Fin 5) (l : List (Fin 6 × Fin 5)) :
    owedL d l (rCell c q.1 q.2) () = if d = pr c q.1 q.2 then l.count q * cr q.1 q.2 else 0 := by
  induction l with
  | nil => simp [owedL]
  | cons p l ih =>
    have ht : (tallyAt (rCell (pr d p.1 p.2) p.1 p.2) () (cr p.1 p.2) : CellTallies nD τ sig Unit) (rCell c q.1 q.2) ()
        = if d = pr c q.1 q.2 then (if p = q then cr q.1 q.2 else 0) else 0 := by
      rw [tallyAt_apply]
      by_cases h : p = q
      · subst h
        rw [if_pos rfl]
        refine if_congr ⟨fun h => ?_, fun h => ?_⟩ rfl rfl
        · rw [(rCell_eq_iff.mp h.1).1, pr_pr]
        · rw [h, pr_pr]; exact ⟨rfl, rfl⟩
      · rw [if_neg fun h' => h (rCell_eq_iff.mp h'.1).2.symm, if_neg h, ite_self]
    unfold owedL
    rw [Pi.add_apply, Finsupp.add_apply, ih, ht, List.count_cons]
    by_cases hd : d = pr c q.1 q.2
    · by_cases h : p = q
      · simp [hd, h, Nat.add_mul]
      · simp [hd, h]
    · simp [hd]

theorem owed_bar (d c : Dev nD) : O₀ d (barCell c) () = (if d = nb 2 c then 1 else 0) + (if d = nb 1 c then 1 else 0) + (if d = nb 0 c then 1 else 0) := by
  have h (a : Fin 3) : (tallyAt (barCell (nb a d)) () 1 : CellTallies nD τ sig Unit) (barCell c) () = if d = nb a c then 1 else 0 := by
    rw [tallyAt_apply]
    refine if_congr ⟨fun h => ?_, fun h => ?_⟩ rfl rfl
    · rw [cell_eq_iff.mp h.1, nb_nb]
    · subst h; rw [nb_nb]; exact ⟨rfl, rfl⟩
  unfold O₀ O₁ O₂
  simp only [Pi.add_apply, Finsupp.add_apply, h, owedL_bar, Nat.zero_add]

theorem sends_count : ∀ q : Fin 6 × Fin 5, sends.count q = 1 := by decide

theorem owed_recv (d c : Dev nD) (q : Fin 6 × Fin 5) : O₀ d (rCell c q.1 q.2) () = if d = pr c q.1 q.2 then cr q.1 q.2 else 0 := by
  have h (a : Fin 3) : (tallyAt (barCell (nb a d)) () 1 : CellTallies nD τ sig Unit) (rCell c q.1 q.2) () = 0 := by
    rw [tallyAt_apply, if_neg fun h => by cases congrArg (fun g : GSem nD τ sig => g.2) h.1]
  unfold O₀ O₁ O₂
  simp only [Pi.add_apply, Finsupp.add_apply, h, owedL_recv, sends_count, Nat.add_zero, Nat.one_mul]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_recv (c : Dev nD) (q : Fin 6 × Fin 5) :
    tallyOn (rCell c q.1 q.2) (launchCredit (Pipeline.owing O₀) 0 (rCell c q.1 q.2)) = (tallyAt (rCell c q.1 q.2) () (cr q.1 q.2) : CellTallies nD τ sig Unit) := by
  unfold tallyAt; refine congrArg _ (Finsupp.ext fun u => ?_); cases u
  rw [Pipeline.launchCredit_owing, Finsupp.single_eq_same, Finset.sum_congr rfl fun d _ => owed_recv d c q]
  simp only [Finset.sum_ite_eq', Finset.mem_univ, if_true]

def rSem : Fin 6 × Fin 5 ↪ SemLoc sig := ⟨fun q => .dma (xS 1 q.1 q.2), fun p q h => congrArg Prod.snd (osem_inj (a₁ := (1, p)) (a₂ := (1, q)) h)⟩

omit [FloatOps F] in
theorem creds (c : Dev nD) : (Pipeline.launchCred O₀ c : sProp 𝕄) ⊢ credits c := by
  unfold Pipeline.launchCred credits
  rw [bigSep_univ_at _ (SemLoc.reg barS), launch_bar, ← bigSep_univ_prod (fun q : Fin 6 × Fin 5 => (cred (tallyAt (rCell c q.1 q.2) () (cr q.1 q.2)) : sProp 𝕄))]
  have e : (bigSep (Finset.univ.map rSem) fun sm => cred (tallyOn ((c : Thread nD τ), sm) (launchCredit (Pipeline.owing O₀) 0 ((c : Thread nD τ), sm))) : sProp 𝕄)
      = bigSep Finset.univ fun q : Fin 6 × Fin 5 => cred (tallyAt (rCell c q.1 q.2) () (cr q.1 q.2)) := by
    rw [bigSep_map]
    exact bigSep_congr fun q _ => congrArg cred (launch_recv c q)
  rw [← e]
  refine sep_mono_right (bigSep_subset fun sm h => ?_)
  obtain ⟨q, -, rfl⟩ := Finset.mem_map.mp h
  exact Finset.mem_erase.mpr ⟨fun h => (nomatch h), Finset.mem_univ _⟩

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

omit [FloatOps F] in
theorem whole_any (c : Dev nD) (b : Ref sig .tc) :
    (iprop(∃ X, owns (Ix := Unit) (Name := ℕ) (U := UU) (Lvl := ℕ) (c : Thread nD τ) (Memref.whole b) fullShare X) : sProp 𝕄)
      = iprop(∃ f : Buf (Elt F) ((c : Thread nD τ).loc b), ((c : Thread nD τ).loc b) ↦{fullShare} f) := by
  have h1 : (iprop(∃ X, owns (Ix := Unit) (Name := ℕ) (U := UU) (Lvl := ℕ) (c : Thread nD τ) (Memref.whole b) fullShare X) : sProp 𝕄)
      ⊢ iprop(∃ f : Buf (Elt F) ((c : Thread nD τ).loc b), ((c : Thread nD τ).loc b) ↦{fullShare} f) := by
    iintro ⟨%X, H⟩
    ihave H := (Entails.of_eq (owns_whole c b X)) $$ H
    icases H with ⟨%f, -, H⟩
    iexists f; iexact H
  have h2 : (iprop(∃ f : Buf (Elt F) ((c : Thread nD τ).loc b), ((c : Thread nD τ).loc b) ↦{fullShare} f) : sProp 𝕄)
      ⊢ iprop(∃ X, owns (Ix := Unit) (Name := ℕ) (U := UU) (Lvl := ℕ) (c : Thread nD τ) (Memref.whole b) fullShare X) := by
    iintro ⟨%f, H⟩
    iexists f
    iapply (Entails.of_eq (owns_whole c b f).symm)
    iexists f
    isplitr; · (ipureintro; rfl)
    iexact H
  exact BI.equiv_iff.mp ⟨h1, h2⟩

omit [FloatOps F] in
/-- The body's scratch memory is the buffers of the six strips. -/
theorem scratch_eq (c : Dev nD) : (Pipeline.scopedRest (Ix := Unit) (Name := ℕ) (U := UU) (Lvl := ℕ) (Val := Elt F) cfg0.spec c : sProp 𝕄)
    = bigSep Finset.univ fun ci => scr c ci := by
  rw [b6]
  unfold scr
  rw [scopedRest0_eq, ← whole_any, ← whole_any, ← whole_any, ← whole_any, ← whole_any, ← whole_any]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, ownSems0_eq, unscopedSems0_eq, ti_eq]
  unfold Φ₁ dn
  rw [slots_sep]
  iintro ⟨Hr, Hz, HzB⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t => by
    have hq : (((cfgs (0 : Fin 1)).win w).sem s).val < 3 := by fin_cases w <;> fin_cases s <;> decide
    rcases t with ⟨_ | _, ht⟩
    · exact mayWait_stage c _ hq
    · show (levAts L lv : sProp 𝕄) ⊢ MayWait (c : Thread nD τ) (.dma _) () 0
      rw [MayWait_zero]; iintro -; iempintro

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- Every execution of the whole mesh ends, with each device's arrays at their final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays end holding -/

/-- The arguments hold what they held. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

/-- The result is what the body left. -/
theorem finalA_o (c : Dev nD) : finalA m ρ c (2 : Fin 3) = outv m ρ c := by
  have h : (win0_2.blk (0 : Fin 1)).view.read (Elt F) (finalA m ρ c (2 : Fin 3)) = outv m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 :=
    funext fun a => by fin_cases a <;> decide
  exact (Memref.read_access_unit_zero (Elt F) main_v1 hz (fun a => by fin_cases a <;> decide) _).symm.trans h

/-- The argument windows stage the arguments whole. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
theorem wstg_eq (c : Dev nD) : wstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- The whole mesh's run, read at the arrays. -/
theorem run_arrays : θ_run defs (onTc (τ := τ) (main (F := F))) (s₀ m ρ) (fun r =>
    (∀ c : Dev nD, r.2.mem ((c : Thread nD τ).loc main_v1) = outv m ρ c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (finalA_o m ρ c), (h.1 c (0 : Fin 3)).trans (finalA_x m ρ c),
    (h.1 c (1 : Fin 3)).trans (finalA_w m ρ c)⟩, h.2⟩) (run_main m ρ)

end AllReduce.KernelIdeal
-- ==== Proof.KernelIdealValue.lean ====
/-
The kernel's result over the extended reals: on every device, in every band, the sum over the eight devices of their
partial products, which is the product of the whole operands.
-/
module
public import proofs.«01_k».proof.Proof.KernelIdealLaunch
public import proofs.«01_k».proof.Proof.Gen.ReferenceIdeal.Read
public import Idealize.ShloMosaic.Lib.MatmulPlain
public import Idealize.ShloMosaic.Lib.Layout

@[expose] public section

noncomputable section

namespace AllReduce.KernelIdeal

open Cert.KernelIdeal Cert.KernelIdeal.Gen

open Idealize.ShloMosaic
open Idealize.ShloMosaic.TcCoe

variable (m : (ℓ : Loc nD τ sig) → Buf (Elt Ideal) ℓ) (ρ : Dev nD → PrngReg)

/-! ## The sum over the devices -/

/-- The devices whose partial products a device has added after a band's three exchanges, in order. -/
def orbit (b : Fin 3) (c : Dev nD) : List (Dev nD) :=
  let x := nb (ax b 0); let y := nb (ax b 1); let z := nb (ax b 2)
  [c, x c, y c, x (y c), z c, x (z c), y (z c), x (y (z c))]

/-- They are all eight, each once. -/
theorem orbit_perm : ∀ (b : Fin 3) (c : Dev nD), (orbit b c).Perm (List.finRange 8) := by decide

/-- After the three exchanges a device holds the sum over all devices. -/
theorem val_total (b : Fin 3) (c : Dev nD) (i : S1024x1024.Idx) : val m ρ b 3 c i = ∑ e : Dev nD, (part m ρ e i : EReal) := by
  have hs : ∑ e : Dev nD, (part m ρ e i : EReal) = ((orbit b c).map fun e => (part m ρ e i : EReal)).sum := by
    rw [((orbit_perm b c).map _).sum_eq]
    exact Fin.sum_univ_def _
  rw [hs]
  simp only [orbit, List.map_cons, List.map_nil, List.sum_cons, List.sum_nil, add_zero]
  simp only [val, add, Ideal.addf_def]
  simp only [if_true, show ¬ (1 : ℕ) = 0 by decide, show ¬ (2 : ℕ) = 0 by decide, show ¬ (2 : ℕ) = 1 by decide, if_false]
  simp only [add_assoc]

theorem outv_total (c : Dev nD) (i : S1024x1024.Idx) : outv m ρ c i = ∑ e : Dev nD, (part m ρ e i : EReal) := by
  have hh (b : Fin 3) (c : Dev nD) : half m ρ b c i = ∑ e : Dev nD, (part m ρ e i : EReal) := by
    unfold half; split <;> exact val_total m ρ b _ i
  have hf (b : Fin 3) (c : Dev nD) : full m ρ b c i = ∑ e : Dev nD, (part m ρ e i : EReal) := by
    unfold full; split <;> exact hh b _
  unfold outv
  split
  · exact hf 0 c
  · split
    · exact hf 1 c
    · exact hf 2 c

/-! ## A partial product -/

/-- The operands a device holds. -/
abbrev lhs (c : Dev nD) : S1024x128.Idx → EReal := m ((c : Thread nD τ).loc main_arg0)
abbrev rhs (c : Dev nD) : S128x1024.Idx → EReal := m ((c : Thread nD τ).loc main_arg1)

/-- A product of two matrices into zeros. -/
theorem product_apply (h : ℕ) (x : FVec Ideal ⟨2, ![h, 128]⟩ .f32) (w : FVec Ideal ⟨2, ![128, 1024]⟩ .f32) (r : Fin h) (c : Fin 1024) :
    FloatOps.matmul (DotDims.plain h 128 1024) none x w (constant ⟨2, ![h, 1024]⟩ .f32 0x00000000#32) (ix2 r c)
      = ∑ k : Fin 128, (x (ix2 r k) * w (ix2 k c) : EReal) := by
  refine (Ideal.matmul_plain_apply none x w _ r c).trans ?_
  show Ideal.ofBits .f32 0x00000000#32 + _ = _
  rw [Ideal.ofBits_zero_f32, zero_add]
  rfl

/-- In every band a partial product is the sum over the device's 128 columns and rows. -/
theorem part_apply (c : Dev nD) (r c' : Fin 1024) :
    part m ρ c (ix2 r c') = ∑ k : Fin 128, lhs m c (ix2 r k) * rhs m c (ix2 k c') := by
  have band (h r0 : ℕ) (hr : r0 + h ≤ 1024) (j : Fin h) (e : r.val = r0 + j.val) :
      FloatOps.matmul (φ₁ := .f32) (φ₂ := .f32) (DotDims.plain h 128 1024) none (xrow m ρ c r0 h hr) (wstg m ρ c) (constant ⟨2, ![h, 1024]⟩ .f32 0x00000000#32) (ix2 j c')
        = ∑ k : Fin 128, lhs m c (ix2 r k) * rhs m c (ix2 k c') := by
    rw [product_apply, wstg_eq]
    refine Finset.sum_congr rfl fun k _ => congrArg₂ (fun a b : EReal => a * b) ?_ rfl
    unfold xrow
    rw [xstg_eq]
    exact congrArg (fun q : Fin 1024 => lhs m c (ix2 q k)) (Fin.ext e.symm)
  unfold part
  split_ifs with h0 h1
  · unfold k0_pay1; simp only [shapeCast_self]
    exact band 344 0 _ ⟨r.val, h0⟩ (Nat.zero_add _).symm
  · unfold k0_pay2; simp only [shapeCast_self]
    exact band 344 344 _ ⟨r.val - 344, _⟩ (by have : ¬ r.val < 344 := h0; show r.val = 344 + (r.val - 344); omega)
  · unfold k0_pay3; simp only [shapeCast_self]
    exact band 336 688 _ ⟨r.val - 688, _⟩ (by have : ¬ r.val < 688 := h1; show r.val = 688 + (r.val - 688); omega)

/-! ## The whole product -/

/-- A device's 128 columns of the first operand are those from 128 times its number on; likewise its rows of the second. -/
theorem block_cols (X : S1024x1024.Idx → EReal) (c : Fin 8) (r : Fin 1024) (k : Fin 128) (h : Layout.Tiles ⟨2, ![1024, 128]⟩ ⟨2, ![1024, 1024]⟩ 1 8) :
    Layout.block ⟨2, ![1024, 128]⟩ ⟨2, ![1024, 1024]⟩ 1 8 c X h (ix2 r k) = X (ix2 r (finProdFinEquiv (c, k))) := by
  rw [Layout.block_apply]
  refine congrArg X (funext fun a => Fin.ext ?_)
  match a with
  | ⟨0, _⟩ => rfl
  | ⟨1, _⟩ => show c.val * 128 + k.val = k.val + 128 * c.val; omega

theorem block_rows (W : S1024x1024.Idx → EReal) (c : Fin 8) (k : Fin 128) (c' : Fin 1024) (h : Layout.Tiles ⟨2, ![128, 1024]⟩ ⟨2, ![1024, 1024]⟩ 0 8) :
    Layout.block ⟨2, ![128, 1024]⟩ ⟨2, ![1024, 1024]⟩ 0 8 c W h (ix2 k c') = W (ix2 (finProdFinEquiv (c, k)) c') := by
  rw [Layout.block_apply]
  refine congrArg W (funext fun a => Fin.ext ?_)
  match a with
  | ⟨0, _⟩ => show c.val * 128 + k.val = k.val + 128 * c.val; omega
  | ⟨1, _⟩ => rfl

/-- With each device holding its blocks of the operands, every device ends with the product of the whole. -/
theorem outv_product (X W : S1024x1024.Idx → EReal)
    (hX : ∀ c : Dev nD, lhs m c = Layout.block ⟨2, ![1024, 128]⟩ ⟨2, ![1024, 1024]⟩ 1 8 c X)
    (hW : ∀ c : Dev nD, rhs m c = Layout.block ⟨2, ![128, 1024]⟩ ⟨2, ![1024, 1024]⟩ 0 8 c W) (c : Dev nD) :
    outv m ρ c = Cert.ReferenceIdeal.Read.val_main_v0 (F := Ideal) X W := by
  funext i
  obtain ⟨r, c', rfl⟩ : ∃ r c', i = ix2 r c' := ⟨i 0, i 1, ValueIdx.eq_ix2 i⟩
  have hs (f : Fin 1024 → EReal) : ∑ k, f k = ∑ e : Fin 8, ∑ k : Fin 128, f (finProdFinEquiv (e, k)) :=
    (Equiv.sum_comp (finProdFinEquiv : Fin 8 × Fin 128 ≃ Fin 1024) f).symm.trans (Fintype.sum_prod_type _)
  rw [outv_total, Cert.ReferenceIdeal.Read.val_main_v0_apply, hs]
  refine Finset.sum_congr rfl fun e _ => ?_
  rw [part_apply, hX, hW]
  refine Finset.sum_congr rfl fun k _ => ?_
  rw [block_cols, block_rows]
  refine congrArg₂ (fun a b : EReal => a * b) (congrArg X ?_) (congrArg W ?_) <;>
    exact funext fun a => match a with | ⟨0, _⟩ => rfl | ⟨1, _⟩ => rfl

end AllReduce.KernelIdeal
-- ==== Proof.lean ====
/-
The claims: the kernel's frame at machine floats and over the extended reals, the reference's, and the equality of their
results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelLaunch
public import proofs.«01_k».proof.Proof.KernelIdealValue
public import Idealize.ShloMosaic.Adequacy
public import Idealize.ShloMosaic.Init

@[expose] public section

noncomputable section

namespace Cert.Proof

open Idealize.ShloMosaic Idealize.SL.Sem

/-- On eight devices, at machine floats, the kernel runs, leaves its arguments as they were and every counter at zero. -/
theorem frame_kernel : Cert.quiescent_Kernel := fun m ρ _ =>
  (θ_run Cert.Kernel.defs _ _).mono (fun _ h => ⟨fun c => (h.1 c).2, h.2⟩) (AllReduce.Kernel.run_arrays (F := Bits) m ρ)

/-- The same over the extended reals. -/
theorem frame_ideal : Cert.quiescent_KernelIdeal := fun m ρ _ =>
  (θ_run Cert.KernelIdeal.defs _ _).mono (fun _ h => ⟨fun c => (h.1 c).2, h.2⟩) (AllReduce.KernelIdeal.run_arrays (F := Ideal) m ρ)

/-- The reference runs and leaves its arguments as they were; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is the reference's product of the whole operands. -/
theorem same_result : Cert.algebraic_KernelIdeal_ReferenceIdeal := fun m ρ m' ρ' _ hargs =>
  ⟨Cert.ReferenceIdeal.Read.val_main_v0 (F := Ideal) (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono
      (fun _ h c => ⟨(h.1 c).1.trans (AllReduce.KernelIdeal.outv_product m ρ _ _ (fun c => (hargs c).1) (fun c => (hargs c).2) c), (h.1 c).2⟩)
      (AllReduce.KernelIdeal.run_arrays (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, same_result⟩

end Cert.Proof

end
